-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S256x256x2 : Shape := ⟨3, ![256, 256, 2]⟩
abbrev S2x32768 : Shape := ⟨2, ![2, 32768]⟩
abbrev S32768 : Shape := ⟨1, ![32768]⟩
abbrev S_ : Shape := ⟨0, ![]⟩

class Facts : Prop where
  bcast_S_S256x256x2 : S_.BroadcastsInDim S256x256x2 (![] : Fin 0 → Fin S256x256x2.rank)
  bcast_S_S2x32768 : S_.BroadcastsInDim S2x32768 (![] : Fin 0 → Fin S2x32768.rank)
  bcast_S_S32768 : S_.BroadcastsInDim S32768 (![] : Fin 0 → Fin S32768.rank)

variable [Facts]

def fn {F : FTy → Type} [FloatOps F] (main_arg0 : FVec F S256x256x2 .f32) (main_arg1 : FVec F S2x32768 .f32) (main_arg2 : FVec F S32768 .f32) : IVec S256x256x2 1 × IVec S2x32768 1 × IVec S32768 1 :=
  let main_v0 : FVec F S256x256x2 .f32 := Host.absf main_arg0
  let main_cst : FVec F S_ .f32 := constant S_ .f32 0x7F800000#32
  let main_v1 : FVec F S256x256x2 .f32 := broadcastInDim S256x256x2 ![] bcast_S_S256x256x2 main_cst
  let main_v2 : IVec S256x256x2 1 := cmpf .olt main_v0 main_v1
  let main_v3 : FVec F S2x32768 .f32 := Host.absf main_arg1
  let main_cst_0 : FVec F S_ .f32 := constant S_ .f32 0x7F800000#32
  let main_v4 : FVec F S2x32768 .f32 := broadcastInDim S2x32768 ![] bcast_S_S2x32768 main_cst_0
  let main_v5 : IVec S2x32768 1 := cmpf .olt main_v3 main_v4
  let main_cst_1 : FVec F S_ .f32 := constant S_ .f32 0x00000000#32
  let main_v6 : FVec F S32768 .f32 := broadcastInDim S32768 ![] bcast_S_S32768 main_cst_1
  let main_v7 : IVec S32768 1 := cmpf .oge main_arg2 main_v6
  let main_cst_2 : FVec F S_ .f32 := constant S_ .f32 0x7F800000#32
  let main_v8 : FVec F S32768 .f32 := broadcastInDim S32768 ![] bcast_S_S32768 main_cst_2
  let main_v9 : IVec S32768 1 := cmpf .olt main_arg2 main_v8
  let main_v10 : IVec S32768 1 := andi main_v7 main_v9
  (main_v2, main_v5, main_v10)
-- ==== Kernel.lean ====
abbrev S256x256x2 : Shape := ⟨3, ![256, 256, 2]⟩
abbrev S2x32768 : Shape := ⟨2, ![2, 32768]⟩
abbrev S32768 : Shape := ⟨1, ![32768]⟩
abbrev S256x256x1 : Shape := ⟨3, ![256, 256, 1]⟩
abbrev S256x256 : Shape := ⟨2, ![256, 256]⟩
abbrev S256x128 : Shape := ⟨2, ![256, 128]⟩
abbrev S_ : Shape := ⟨0, ![]⟩
abbrev S256x7 : Shape := ⟨2, ![256, 7]⟩
abbrev S256x1 : Shape := ⟨2, ![256, 1]⟩
abbrev S256x136 : Shape := ⟨2, ![256, 136]⟩
abbrev S128x136 : Shape := ⟨2, ![128, 136]⟩
abbrev S7x136 : Shape := ⟨2, ![7, 136]⟩
abbrev S1x136 : Shape := ⟨2, ![1, 136]⟩
abbrev S136x136 : Shape := ⟨2, ![136, 136]⟩
abbrev S1 : Shape := ⟨1, ![1]⟩
abbrev S2 : Shape := ⟨1, ![2]⟩
abbrev S136x1 : Shape := ⟨2, ![136, 1]⟩
abbrev S136x272 : Shape := ⟨2, ![136, 272]⟩
abbrev S544x272 : Shape := ⟨2, ![544, 272]⟩
abbrev S1x32768 : Shape := ⟨2, ![1, 32768]⟩
abbrev S8x1x4096 : Shape := ⟨3, ![8, 1, 4096]⟩
abbrev S1x1x4096 : Shape := ⟨3, ![1, 1, 4096]⟩
abbrev S272x4096 : Shape := ⟨2, ![272, 4096]⟩
abbrev S544x4096 : Shape := ⟨2, ![544, 4096]⟩
abbrev S1x4096 : Shape := ⟨2, ![1, 4096]⟩
abbrev S2x4096 : Shape := ⟨2, ![2, 4096]⟩
abbrev S4x4096 : Shape := ⟨2, ![4, 4096]⟩
abbrev S8x4096 : Shape := ⟨2, ![8, 4096]⟩
abbrev S16x4096 : Shape := ⟨2, ![16, 4096]⟩
abbrev S32x4096 : Shape := ⟨2, ![32, 4096]⟩
abbrev S64x4096 : Shape := ⟨2, ![64, 4096]⟩
abbrev S136x4096 : Shape := ⟨2, ![136, 4096]⟩
abbrev S8x544 : Shape := ⟨2, ![8, 544]⟩
abbrev S4096 : Shape := ⟨1, ![4096]⟩
abbrev S32768x1 : Shape := ⟨2, ![32768, 1]⟩
abbrev S32768x2 : Shape := ⟨2, ![32768, 2]⟩

abbrev nBuf : Space → Nat
  | .hbm => 137
  | .vmem => 14
  | .smem => 0
  | _ => 0

abbrev hbmTy0_0 (i : Nat) : BufTy := match i % 128 with
  | 0 => ⟨S256x256x2, .f32⟩
  | 1 => ⟨S2x32768, .f32⟩
  | 2 => ⟨S32768, .f32⟩
  | 3 => ⟨S256x256x1, .f32⟩
  | 4 => ⟨S256x256, .f32⟩
  | 5 => ⟨S256x256, .f32⟩
  | 6 => ⟨S256x256x1, .f32⟩
  | 7 => ⟨S256x256, .f32⟩
  | 8 => ⟨S256x256, .f32⟩
  | 9 => ⟨S256x128, .f32⟩
  | 10 => ⟨S256x128, .f32⟩
  | 11 => ⟨S256x128, .f32⟩
  | 12 => ⟨S_, .f32⟩
  | 13 => ⟨S256x7, .f32⟩
  | 14 => ⟨S256x128, .f32⟩
  | 15 => ⟨S256x1, .f32⟩
  | 16 => ⟨S256x136, .f32⟩
  | 17 => ⟨S256x128, .f32⟩
  | 18 => ⟨S256x1, .f32⟩
  | 19 => ⟨S256x1, .f32⟩
  | 20 => ⟨S256x136, .f32⟩
  | 21 => ⟨S256x128, .f32⟩
  | 22 => ⟨S256x128, .f32⟩
  | 23 => ⟨S256x128, .f32⟩
  | 24 => ⟨S_, .f32⟩
  | 25 => ⟨S256x7, .f32⟩
  | 26 => ⟨S256x128, .f32⟩
  | 27 => ⟨S256x1, .f32⟩
  | 28 => ⟨S256x136, .f32⟩
  | 29 => ⟨S256x128, .f32⟩
  | 30 => ⟨S256x1, .f32⟩
  | 31 => ⟨S256x1, .f32⟩
  | 32 => ⟨S256x136, .f32⟩
  | 33 => ⟨S128x136, .f32⟩
  | 34 => ⟨S128x136, .f32⟩
  | 35 => ⟨S128x136, .f32⟩
  | 36 => ⟨S_, .f32⟩
  | 37 => ⟨S7x136, .f32⟩
  | 38 => ⟨S128x136, .f32⟩
  | 39 => ⟨S1x136, .f32⟩
  | 40 => ⟨S136x136, .f32⟩
  | 41 => ⟨S128x136, .f32⟩
  | 42 => ⟨S1x136, .f32⟩
  | 43 => ⟨S1x136, .f32⟩
  | 44 => ⟨S136x136, .f32⟩
  | 45 => ⟨S128x136, .f32⟩
  | 46 => ⟨S128x136, .f32⟩
  | 47 => ⟨S128x136, .f32⟩
  | 48 => ⟨S_, .f32⟩
  | 49 => ⟨S7x136, .f32⟩
  | 50 => ⟨S128x136, .f32⟩
  | 51 => ⟨S1x136, .f32⟩
  | 52 => ⟨S136x136, .f32⟩
  | 53 => ⟨S128x136, .f32⟩
  | 54 => ⟨S1x136, .f32⟩
  | 55 => ⟨S1x136, .f32⟩
  | 56 => ⟨S136x136, .f32⟩
  | 57 => ⟨S128x136, .f32⟩
  | 58 => ⟨S128x136, .f32⟩
  | 59 => ⟨S128x136, .f32⟩
  | 60 => ⟨S_, .f32⟩
  | 61 => ⟨S7x136, .f32⟩
  | 62 => ⟨S128x136, .f32⟩
  | 63 => ⟨S1x136, .f32⟩
  | 64 => ⟨S136x136, .f32⟩
  | 65 => ⟨S128x136, .f32⟩
  | 66 => ⟨S1x136, .f32⟩
  | 67 => ⟨S1x136, .f32⟩
  | 68 => ⟨S136x136, .f32⟩
  | 69 => ⟨S128x136, .f32⟩
  | 70 => ⟨S128x136, .f32⟩
  | 71 => ⟨S128x136, .f32⟩
  | 72 => ⟨S_, .f32⟩
  | 73 => ⟨S7x136, .f32⟩
  | 74 => ⟨S128x136, .f32⟩
  | 75 => ⟨S1x136, .f32⟩
  | 76 => ⟨S136x136, .f32⟩
  | 77 => ⟨S128x136, .f32⟩
  | 78 => ⟨S1x136, .f32⟩
  | 79 => ⟨S1x136, .f32⟩
  | 80 => ⟨S136x136, .f32⟩
  | 81 => ⟨S_, .f32⟩
  | 82 => ⟨S1x136, .f32⟩
  | 83 => ⟨S_, .i32⟩
  | 84 => ⟨S1, .i32⟩
  | 85 => ⟨S_, .i32⟩
  | 86 => ⟨S1, .i32⟩
  | 87 => ⟨S2, .i32⟩
  | 88 => ⟨S_, .f32⟩
  | 89 => ⟨S1x136, .f32⟩
  | 90 => ⟨S136x1, .f32⟩
  | 91 => ⟨S136x136, .f32⟩
  | 92 => ⟨S136x136, .f32⟩
  | 93 => ⟨S136x136, .f32⟩
  | 94 => ⟨S136x136, .f32⟩
  | 95 => ⟨S136x136, .f32⟩
  | 96 => ⟨S136x136, .f32⟩
  | 97 => ⟨S136x136, .f32⟩
  | 98 => ⟨S136x136, .f32⟩
  | 99 => ⟨S136x136, .f32⟩
  | 100 => ⟨S136x136, .f32⟩
  | 101 => ⟨S136x136, .f32⟩
  | 102 => ⟨S136x136, .f32⟩
  | 103 => ⟨S136x136, .f32⟩
  | 104 => ⟨S136x136, .f32⟩
  | 105 => ⟨S136x136, .f32⟩
  | 106 => ⟨S136x136, .f32⟩
  | 107 => ⟨S136x136, .f32⟩
  | 108 => ⟨S136x136, .f32⟩
  | 109 => ⟨S136x136, .f32⟩
  | 110 => ⟨S136x136, .f32⟩
  | 111 => ⟨S136x136, .f32⟩
  | 112 => ⟨S136x136, .f32⟩
  | 113 => ⟨S136x136, .f32⟩
  | 114 => ⟨S136x136, .f32⟩
  | 115 => ⟨S136x136, .f32⟩
  | 116 => ⟨S136x272, .f32⟩
  | 117 => ⟨S136x272, .f32⟩
  | 118 => ⟨S136x136, .f32⟩
  | 119 => ⟨S136x272, .f32⟩
  | 120 => ⟨S136x272, .f32⟩
  | 121 => ⟨S544x272, .f32⟩
  | 122 => ⟨S1x32768, .f32⟩
  | 123 => ⟨S32768, .f32⟩
  | 124 => ⟨S8x1x4096, .f32⟩
  | 125 => ⟨S1x32768, .f32⟩
  | 126 => ⟨S32768, .f32⟩
  | 127 => ⟨S8x1x4096, .f32⟩
  | _ => ⟨S256x256x2, .f32⟩

abbrev hbmTy0_1 (i : Nat) : BufTy := match i % 128 with
  | 0 => ⟨S32768, .f32⟩
  | 1 => ⟨S8x1x4096, .f32⟩
  | 2 => ⟨S8x1x4096, .f32⟩
  | 3 => ⟨S8x1x4096, .f32⟩
  | 4 => ⟨S32768, .f32⟩
  | 5 => ⟨S32768, .f32⟩
  | 6 => ⟨S32768x1, .f32⟩
  | 7 => ⟨S32768x1, .f32⟩
  | 8 => ⟨S32768x2, .f32⟩
  | _ => ⟨S256x256x2, .f32⟩

abbrev hbmTy (i : Nat) : BufTy := match i / 128 with
  | 0 => hbmTy0_0 i
  | 1 => hbmTy0_1 i
  | _ => ⟨S256x256x2, .f32⟩

abbrev bufTy : (tb : Table) → Fin (tcTables nBuf tb) → BufTy
  | .hbm, ⟨i, _⟩ => hbmTy i
  | .local _ .vmem, ⟨0, _⟩ => ⟨S544x272, .f32⟩
  | .local _ .vmem, ⟨1, _⟩ => ⟨S1x1x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S272x4096, .f32⟩
  | .local _ .vmem, ⟨12, _⟩ => ⟨S272x4096, .f32⟩
  | .local _ .vmem, ⟨13, _⟩ => ⟨S544x4096, .f32⟩
  | _, _ => ⟨S256x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_3 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_4 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_c : Ref sig .tc := ⟨.hbm, 83, rfl⟩
abbrev main_v73 : Ref sig .tc := ⟨.hbm, 84, rfl⟩
abbrev main_c_6 : Ref sig .tc := ⟨.hbm, 85, rfl⟩
abbrev main_v74 : Ref sig .tc := ⟨.hbm, 86, rfl⟩
abbrev main_v75 : Ref sig .tc := ⟨.hbm, 87, rfl⟩
abbrev main_cst_7 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117_0 : Ref sig .tc := ⟨.hbm, 130, rfl⟩
abbrev main_v117_1 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S544x272 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x256x2 : Shape := ⟨3, ![256, 256, 2]⟩
abbrev S2x32768 : Shape := ⟨2, ![2, 32768]⟩
abbrev S32768 : Shape := ⟨1, ![32768]⟩
abbrev S256x256x1 : Shape := ⟨3, ![256, 256, 1]⟩
abbrev S256x256 : Shape := ⟨2, ![256, 256]⟩
abbrev S256 : Shape := ⟨1, ![256]⟩
abbrev S_ : Shape := ⟨0, ![]⟩
abbrev S1x32768 : Shape := ⟨2, ![1, 32768]⟩
abbrev S32768x1 : Shape := ⟨2, ![32768, 1]⟩
abbrev S1x256 : Shape := ⟨2, ![1, 256]⟩
abbrev S32768x256 : Shape := ⟨2, ![32768, 256]⟩
abbrev S32768x2 : Shape := ⟨2, ![32768, 2]⟩

abbrev nBuf : Space → Nat
  | .hbm => 58
  | .vmem => 0
  | .smem => 0
  | _ => 0

abbrev bufTy : (tb : Table) → Fin (tcTables nBuf tb) → BufTy
  | .hbm, ⟨0, _⟩ => ⟨S256x256x2, .f32⟩
  | .hbm, ⟨1, _⟩ => ⟨S2x32768, .f32⟩
  | .hbm, ⟨2, _⟩ => ⟨S32768, .f32⟩
  | .hbm, ⟨3, _⟩ => ⟨S256x256x1, .f32⟩
  | .hbm, ⟨4, _⟩ => ⟨S256x256, .f32⟩
  | .hbm, ⟨5, _⟩ => ⟨S256x256x1, .f32⟩
  | .hbm, ⟨6, _⟩ => ⟨S256x256, .f32⟩
  | .hbm, ⟨7, _⟩ => ⟨S256, .i32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S1x32768, .f32⟩
  | .hbm, ⟨13, _⟩ => ⟨S32768, .f32⟩
  | .hbm, ⟨14, _⟩ => ⟨S1x32768, .f32⟩
  | .hbm, ⟨15, _⟩ => ⟨S32768, .f32⟩
  | .hbm, ⟨16, _⟩ => ⟨S_, .f32⟩
  | .hbm, ⟨17, _⟩ => ⟨S32768, .f32⟩
  | .hbm, ⟨18, _⟩ => ⟨S32768, .f32⟩
  | .hbm, ⟨19, _⟩ => ⟨S32768x1, .f32⟩
  | .hbm, ⟨20, _⟩ => ⟨S1x256, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S_, .f32⟩
  | .hbm, ⟨25, _⟩ => ⟨S32768, .f32⟩
  | .hbm, ⟨26, _⟩ => ⟨S32768, .f32⟩
  | .hbm, ⟨27, _⟩ => ⟨S32768x1, .f32⟩
  | .hbm, ⟨28, _⟩ => ⟨S1x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S_, .f32⟩
  | .hbm, ⟨46, _⟩ => ⟨S32768, .f32⟩
  | .hbm, ⟨47, _⟩ => ⟨S32768x256, .f32⟩
  | .hbm, ⟨48, _⟩ => ⟨S32768x256, .f32⟩
  | .hbm, ⟨49, _⟩ => ⟨S32768x256, .f32⟩
  | .hbm, ⟨50, _⟩ => ⟨S_, .f32⟩
  | .hbm, ⟨51, _⟩ => ⟨S32768, .f32⟩
  | .hbm, ⟨52, _⟩ => ⟨S32768, .f32⟩
  | .hbm, ⟨53, _⟩ => ⟨S32768, .f32⟩
  | .hbm, ⟨54, _⟩ => ⟨S32768, .f32⟩
  | .hbm, ⟨55, _⟩ => ⟨S32768x1, .f32⟩
  | .hbm, ⟨56, _⟩ => ⟨S32768x1, .f32⟩
  | .hbm, ⟨57, _⟩ => ⟨S32768x2, .f32⟩
  | _, _ => ⟨S256x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]
-- ==== Proof.Rows.lean ====
/- Rows of cosines and sines: what one doubling step of the power table computes, and what a table stored block of rows
   by block of rows holds when it is read back. Nothing here mentions the kernel's own text but its scratch shape. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.Rows

open Idealize.ShloMosaic Idealize.ShloMosaic.TcCoe Cert.KernelIdeal

/-- A block of `R` rows of 4096 lanes, at the ideal reading. -/
abbrev Block (R : ℕ) : Type := FVec Ideal ⟨2, ![R, 4096]⟩ .f32

/-- `cr`, `ci` are, in every lane, the cosine and the sine of `o` times the lane's angle. -/
def Ang (θ : Fin 4096 → ℝ) (o : ℕ) (cr ci : Block 1) : Prop :=
  ∀ s : Fin 4096, cr (ix2 0 s) = ((Real.cos (o * θ s) : ℝ) : EReal) ∧ ci (ix2 0 s) = ((Real.sin (o * θ s) : ℝ) : EReal)

/-- `xr`, `xi` are rows `o … o + R - 1` of the table of `w` times the cosine and the sine of the row number times the
    lane's angle. -/
def Blk (R : ℕ) (w θ : Fin 4096 → ℝ) (o : ℕ) (xr xi : Block R) : Prop :=
  ∀ (r : Fin R) (s : Fin 4096), xr (ix2 r s) = ((w s * Real.cos (((o + r : ℕ) : ℝ) * θ s) : ℝ) : EReal)
    ∧ xi (ix2 r s) = ((w s * Real.sin (((o + r : ℕ) : ℝ) * θ s) : ℝ) : EReal)

/-- Squaring the rotation doubles its angle. -/
theorem Ang.double {θ : Fin 4096 → ℝ} {o o' : ℕ} {cr ci : Block 1} (h : Ang θ o cr ci) (ho : o' = 2 * o) :
    Ang θ o' (subf (mulf cr cr) (mulf ci ci)) (addf (mulf cr ci) (mulf ci cr)) := by
  subst ho
  intro s
  have e : ((2 * o : ℕ) : ℝ) * θ s = o * θ s + o * θ s := by push_cast; ring
  constructor
  · pointwise [(h s).1, (h s).2]
    rw [e, Real.cos_add]; norm_cast
  · pointwise [(h s).1, (h s).2]
    rw [e, Real.sin_add]; norm_cast; ring

/-- Rotating the first `R` rows by `o` times the angle gives the rows from `o` on. -/
theorem Blk.rot {R : ℕ} {w θ : Fin 4096 → ℝ} {o : ℕ} {ar ai : Block R} {sr si : Block 1}
    (h : Blk R w θ 0 ar ai) (hs : Ang θ o sr si) (hb : (⟨2, ![1, 4096]⟩ : Shape).Broadcasts ⟨2, ![R, 4096]⟩) :
    Blk R w θ o (subf (mulf ar (broadcastTo ⟨2, ![R, 4096]⟩ sr hb)) (mulf ai (broadcastTo ⟨2, ![R, 4096]⟩ si hb)))
      (addf (mulf ar (broadcastTo ⟨2, ![R, 4096]⟩ si hb)) (mulf ai (broadcastTo ⟨2, ![R, 4096]⟩ sr hb))) := by
  intro r s
  have e : ((o + r : ℕ) : ℝ) * θ s = ((0 + r : ℕ) : ℝ) * θ s + o * θ s := by push_cast; ring
  have hbr : ∀ x : Block 1, broadcastTo ⟨2, ![R, 4096]⟩ x hb (ix2 r s) = x (ix2 0 s) := by
    intro x; pointwise
  constructor
  · show ar (ix2 r s) * broadcastTo _ sr hb (ix2 r s) - ai (ix2 r s) * broadcastTo _ si hb (ix2 r s) = _
    rw [hbr, hbr, (h r s).1, (h r s).2, (hs s).1, (hs s).2, e, Real.cos_add]
    norm_cast; ring_nf
  · show ar (ix2 r s) * broadcastTo _ si hb (ix2 r s) + ai (ix2 r s) * broadcastTo _ sr hb (ix2 r s) = _
    rw [hbr, hbr, (h r s).1, (h r s).2, (hs s).1, (hs s).2, e, Real.sin_add]
    norm_cast; ring_nf

/-- The same for one row, where nothing is repeated over rows. -/
theorem Blk.rot_one {w θ : Fin 4096 → ℝ} {o : ℕ} {ar ai sr si : Block 1} (h : Blk 1 w θ 0 ar ai) (hs : Ang θ o sr si) :
    Blk 1 w θ o (subf (mulf ar sr) (mulf ai si)) (addf (mulf ar si) (mulf ai sr)) := by
  intro r s
  have hr : r = 0 := Subsingleton.elim _ _
  subst hr
  have e : ((o + (0 : Fin 1) : ℕ) : ℝ) * θ s = ((0 + (0 : Fin 1) : ℕ) : ℝ) * θ s + o * θ s := by push_cast; simp
  constructor
  · show ar (ix2 0 s) * sr (ix2 0 s) - ai (ix2 0 s) * si (ix2 0 s) = _
    rw [(h 0 s).1, (h 0 s).2, (hs s).1, (hs s).2, e, Real.cos_add]
    norm_cast; ring_nf
  · show ar (ix2 0 s) * si (ix2 0 s) + ai (ix2 0 s) * sr (ix2 0 s) = _
    rw [(h 0 s).1, (h 0 s).2, (hs s).1, (hs s).2, e, Real.sin_add]
    norm_cast; ring_nf

/-- The stores `L` leave rows `0 … n - 1` of the table: the cosine of row `r` in row `r`, its sine in row `136 + r`. -/
def Tab (w θ : Fin 4096 → ℝ) (n : ℕ) (L : List (View.Piece (Elt Ideal) S272x4096 .f32)) : Prop :=
  ∀ (r : ℕ) (h : r < 136) (s : Fin 4096), r < n →
    (View.canon L : S272x4096.Idx → Elt Ideal .f32) (ix2 ⟨r, by omega⟩ s) = ((w s * Real.cos ((r : ℝ) * θ s) : ℝ) : EReal)
    ∧ (View.canon L : S272x4096.Idx → Elt Ideal .f32) (ix2 ⟨136 + r, by omega⟩ s) = ((w s * Real.sin ((r : ℝ) * θ s) : ℝ) : EReal)

/-- Before any store the table has no rows. -/
theorem Tab.nil (w θ : Fin 4096 → ℝ) : Tab w θ 0 [] := fun _ _ _ h => absurd h (Nat.not_lt_zero _)

/-- What stores leave at an index of the last one's rows is that store's payload; -/
theorem canon_in {N R o : ℕ} {inb : ∀ a, (![o, 0] : Fin 2 → ℕ) a + (![R, 4096] : Fin 2 → ℕ) a ≤ (⟨2, ![N, 4096]⟩ : Shape).size a}
    (x : Block R) (L : List (View.Piece (Elt Ideal) (⟨2, ![N, 4096]⟩ : Shape) .f32)) (r : Fin R) (s : Fin 4096) (k : Fin N) (hk : k.val = o + r) :
    View.canon ((⟨Rect.unit (s := ⟨2, ![N, 4096]⟩) ![o, 0] ![R, 4096] inb, x⟩ : View.Piece (Elt Ideal) (⟨2, ![N, 4096]⟩ : Shape) .f32) :: L) (ix2 k s) = x (ix2 r s) := by
  have : (ix2 k s : (⟨2, ![N, 4096]⟩ : Shape).Idx) = (Rect.unit (s := ⟨2, ![N, 4096]⟩) ![o, 0] ![R, 4096] inb).emb (ix2 r s) := by
    funext a
    refine Fin.ext ?_
    rw [ValueKit.rect_emb_unit_val]
    match a with
    | ⟨0, _⟩ => exact hk
    | ⟨1, _⟩ => exact (Nat.zero_add _).symm
  rw [this]
  exact View.canon_cons_emb (Rect.unit (s := ⟨2, ![N, 4096]⟩) ![o, 0] ![R, 4096] inb) x L (ix2 r s)

/-- off those rows, what the earlier stores left. -/
theorem canon_out {N R o : ℕ} {inb : ∀ a, (![o, 0] : Fin 2 → ℕ) a + (![R, 4096] : Fin 2 → ℕ) a ≤ (⟨2, ![N, 4096]⟩ : Shape).size a}
    (x : Block R) (L : List (View.Piece (Elt Ideal) (⟨2, ![N, 4096]⟩ : Shape) .f32)) (s : Fin 4096) (k : Fin N) (hk : k.val < o ∨ o + R ≤ k.val) :
    View.canon ((⟨Rect.unit (s := ⟨2, ![N, 4096]⟩) ![o, 0] ![R, 4096] inb, x⟩ : View.Piece (Elt Ideal) (⟨2, ![N, 4096]⟩ : Shape) .f32) :: L) (ix2 k s)
      = View.canon L (ix2 k s) := by
  refine View.canon_cons_of_not_mem _ L fun hm => ?_
  obtain ⟨j, hj, e⟩ := (LoadRect.mem_set _).1 hm 0
  have e' : k.val = o + 1 * j := e
  have hj' : j < R := hj
  omega

/-- Storing the next block's two halves extends the table by that block. -/
theorem Tab.push {w θ : Fin 4096 → ℝ} {n R oi n' : ℕ} {L : List (View.Piece (Elt Ideal) S272x4096 .f32)} {xr xi : Block R}
    {inbi : ∀ a, (![oi, 0] : Fin 2 → ℕ) a + (![R, 4096] : Fin 2 → ℕ) a ≤ S272x4096.size a}
    {inbr : ∀ a, (![n, 0] : Fin 2 → ℕ) a + (![R, 4096] : Fin 2 → ℕ) a ≤ S272x4096.size a}
    (h : Tab w θ n L) (hx : Blk R w θ n xr xi) (hoi : oi = 136 + n) (hn' : n' = n + R) (hle : n + R ≤ 136) :
    Tab w θ n' (⟨Rect.unit (s := S272x4096) ![oi, 0] ![R, 4096] inbi, xi⟩ :: ⟨Rect.unit (s := S272x4096) ![n, 0] ![R, 4096] inbr, xr⟩ :: L) := by
  subst hoi hn'
  intro r hr s hrn
  by_cases hlt : r < n
  · obtain ⟨h1, h2⟩ := h r hr s hlt
    refine ⟨?_, ?_⟩
    · rw [canon_out xi _ s _ (Or.inl (by show r < 136 + n; omega)), canon_out xr _ s _ (Or.inl hlt)]; exact h1
    · rw [canon_out xi _ s _ (Or.inl (by show 136 + r < 136 + n; omega)), canon_out xr _ s _ (Or.inr (by show n + R ≤ 136 + r; omega))]; exact h2
  · obtain ⟨h1, h2⟩ := hx ⟨r - n, by omega⟩ s
    have e : n + (r - n) = r := by omega
    simp only [e] at h1 h2
    refine ⟨?_, ?_⟩
    · rw [canon_out xi _ s _ (Or.inl (by show r < 136 + n; omega)), canon_in xr _ ⟨r - n, by omega⟩ s _ (by show r = n + (r - n); omega)]; exact h1
    · rw [canon_in xi _ ⟨r - n, by omega⟩ s _ (by show 136 + r = 136 + n + (r - n); omega)]; exact h2

/-- Loading the first `R` rows of both halves reads the table's first `R` rows. -/
theorem Tab.load {w θ : Fin 4096 → ℝ} {n R : ℕ} {L : List (View.Piece (Elt Ideal) S272x4096 .f32)} (h : Tab w θ n L)
    {κ : Kind} {sp : Space} (v : View sig κ sp S272x4096 .f32)
    {inbr : ∀ a, (![0, 0] : Fin 2 → ℕ) a + (![R, 4096] : Fin 2 → ℕ) a ≤ S272x4096.size a}
    {inbi : ∀ a, (![136, 0] : Fin 2 → ℕ) a + (![R, 4096] : Fin 2 → ℕ) a ≤ S272x4096.size a}
    (hR : R ≤ n) (hle : R ≤ 136) :
    Blk R w θ 0 (v.readCov L (Rect.unit (s := S272x4096) ![0, 0] ![R, 4096] inbr).toLoadRect)
      (v.readCov L (Rect.unit (s := S272x4096) ![136, 0] ![R, 4096] inbi).toLoadRect) := by
  intro r s
  obtain ⟨h1, h2⟩ := h r.val (by omega) s (by omega)
  have e : ((0 + (r : ℕ) : ℕ) : ℝ) = ((r : ℕ) : ℝ) := by rw [Nat.zero_add]
  rw [e, View.readCov_eq_canon', View.readCov_eq_canon']
  refine ⟨?_, ?_⟩
  · refine Eq.trans (congrArg (View.canon L) ?_) h1
    funext a; refine Fin.ext ?_
    match a with
    | ⟨0, _⟩ => show 0 + 1 * r.val = r.val; omega
    | ⟨1, _⟩ => show 0 + 1 * s.val = s.val; omega
  · refine Eq.trans (congrArg (View.canon L) ?_) h2
    funext a; refine Fin.ext ?_
    match a with
    | ⟨0, _⟩ => show 136 + 1 * r.val = 136 + r.val; omega
    | ⟨1, _⟩ => show 0 + 1 * s.val = s.val; omega

end Cert.Proof.Rows

end
-- ==== Proof.Table.lean ====
/- The kernel's two power tables: what its rotations, its loads and its stores leave in the two scratch tables, level by
   level of the doubling. -/
module

public import proofs.«01_k».proof.Proof.Rows

@[expose] public section

set_option maxRecDepth 16384

noncomputable section

namespace Cert.Proof.Table

open Idealize.ShloMosaic Idealize.ShloMosaic.TcCoe Cert.KernelIdeal Cert.KernelIdeal.Gen Cert.Proof.Rows
open Cert.KernelIdeal.Gen.kernelRun0_A

/-- A stored value read back at its own shape is itself. -/
theorem blk_cast {R : ℕ} {w θ : Fin 4096 → ℝ} {o : ℕ} {xr xi : Block R} (h : Blk R w θ o xr xi)
    (hr hi : (⟨2, ![R, 4096]⟩ : Shape).ShapeCasts ⟨2, ![R, 4096]⟩) :
    Blk R w θ o (shapeCast ⟨2, ![R, 4096]⟩ xr hr) (shapeCast ⟨2, ![R, 4096]⟩ xi hi) := by
  rw [shapeCast_self, shapeCast_self]; exact h

/-- The literal the frequencies are multiplied by, as a real. -/
def tw : ℝ := -13176795 / 2097152

/-- It is that real. -/
theorem tw_eq : (Ideal.ofBits .f32 0xC0C90FDB#32 : EReal) = ((tw : ℝ) : EReal) := by
  simp [Ideal.ofBits, Ideal.ieee, tw, -EReal.coe_mul, -EReal.coe_neg]; norm_num

variable (c : Dev nD)
  (arg2 : Memref sig .tc .vmem S1x1x4096 .f32) (harg2 : arg2.IsWhole) (arg3 : Memref sig .tc .vmem S1x1x4096 .f32) (harg3 : arg3.IsWhole)
  (arg4 : Memref sig .tc .vmem S1x1x4096 .f32) (harg4 : arg4.IsWhole)
  (arg7 arg8 : Memref sig .tc .vmem S272x4096 .f32) (x1 x2 x3 : Vec Ideal S1x1x4096 .f32)
  {kx ky w : Fin 4096 → ℝ}

/-- A block window's one load reads its contents. -/
theorem read_whole (a : Memref sig .tc .vmem S1x1x4096 .f32) (ha : a.IsWhole) (x : Vec Ideal S1x1x4096 .f32) :
    View.readAt (Elt Ideal) a.view (Rect.unit ![0, 0, 0] S1x1x4096.size inb_S1x1x4096_S1x1x4096_0_0_0).toLoadRect (ha.unread x) = x := by
  show View.readAt (Elt Ideal) a.view (Rect.unit ![0, 0, 0] S1x1x4096.size inb_S1x1x4096_S1x1x4096_0_0_0) (ha.unread x) = x
  rw [View.readAt_eq_ld, ha.read_unread]
  exact View.ld_unit_lit _ x (by decide)

/-- The cosine of a real frequency's angle; -/
theorem cos_tw (k : ℝ) : Ideal.cos ((Ideal.ofBits .f32 0xC0C90FDB#32 : EReal) * (k : EReal)) = ((Real.cos ((1 : ℕ) * (tw * k)) : ℝ) : EReal) := by
  rw [tw_eq, ← EReal.coe_mul, Nat.cast_one, one_mul]; rfl

/-- its sine. -/
theorem sin_tw (k : ℝ) : Ideal.sin ((Ideal.ofBits .f32 0xC0C90FDB#32 : EReal) * (k : EReal)) = ((Real.sin ((1 : ℕ) * (tw * k)) : ℝ) : EReal) := by
  rw [tw_eq, ← EReal.coe_mul, Nat.cast_one, one_mul]; rfl

/-- The cosine and the sine of the first frequency's angle. -/
theorem ang_x (h1 : ∀ s, x1 (ix3 0 0 s) = ((kx s : ℝ) : EReal)) :
    Ang (fun s => tw * kx s) 1 (sl.r c arg2 harg2 arg3 harg3 x1 x2) (sl.r_2 c arg2 harg2 arg3 harg3 x1 x2) := by
  intro s
  unfold sl.r sl.r_2
  rw [read_whole, read_whole]
  unfold k0_pay7 k0_pay9 k0_pay5 k0_pay6 k0_pay4
  constructor
  · pointwise [h1]
    exact cos_tw _
  · pointwise [h1]
    exact sin_tw _

/-- The cosine and the sine of the second frequency's angle. -/
theorem ang_y (h2 : ∀ s, x2 (ix3 0 0 s) = ((ky s : ℝ) : EReal)) :
    Ang (fun s => tw * ky s) 1 (sl.r_1 c arg2 harg2 arg3 harg3 x1 x2) (sl.r_3 c arg2 harg2 arg3 harg3 x1 x2) := by
  intro s
  unfold sl.r_1 sl.r_3
  rw [read_whole, read_whole]
  unfold k0_pay8 k0_pay10 k0_pay5 k0_pay6 k0_pay4
  constructor
  · pointwise [h2]
    exact cos_tw _
  · pointwise [h2]
    exact sin_tw _

/-- The rotation by 4 times that angle. -/
theorem ang_x4 (h1 : ∀ s, x1 (ix3 0 0 s) = ((kx s : ℝ) : EReal)) :
    Ang (fun s => tw * kx s) 4 (sl.r_7 c arg2 harg2 arg3 harg3 x1 x2) (sl.r_8 c arg2 harg2 arg3 harg3 x1 x2) :=
  ((ang_x c arg2 harg2 arg3 harg3 x1 x2 h1).double rfl).double rfl

/-- The rotation by 16 times that angle. -/
theorem ang_x16 (h1 : ∀ s, x1 (ix3 0 0 s) = ((kx s : ℝ) : EReal)) :
    Ang (fun s => tw * kx s) 16 (sl.r_10 c arg2 harg2 arg3 harg3 x1 x2) (sl.r_11 c arg2 harg2 arg3 harg3 x1 x2) :=
  ((ang_x4 c arg2 harg2 arg3 harg3 x1 x2 h1).double rfl).double rfl

/-- The rotation by 32 times that angle. -/
theorem ang_x32 (h1 : ∀ s, x1 (ix3 0 0 s) = ((kx s : ℝ) : EReal)) :
    Ang (fun s => tw * kx s) 32 (sl.r_12 c arg2 harg2 arg3 harg3 x1 x2) (sl.r_13 c arg2 harg2 arg3 harg3 x1 x2) :=
  (ang_x16 c arg2 harg2 arg3 harg3 x1 x2 h1).double rfl

/-- The rotation by 2 times that angle. -/
theorem ang_y2 (h2 : ∀ s, x2 (ix3 0 0 s) = ((ky s : ℝ) : EReal)) :
    Ang (fun s => tw * ky s) 2 (sl.r_17 c arg2 harg2 arg3 harg3 x1 x2) (sl.r_18 c arg2 harg2 arg3 harg3 x1 x2) :=
  (ang_y c arg2 harg2 arg3 harg3 x1 x2 h2).double rfl

/-- The rotation by 8 times that angle. -/
theorem ang_y8 (h2 : ∀ s, x2 (ix3 0 0 s) = ((ky s : ℝ) : EReal)) :
    Ang (fun s => tw * ky s) 8 (sl.r_20 c arg2 harg2 arg3 harg3 x1 x2) (sl.r_21 c arg2 harg2 arg3 harg3 x1 x2) :=
  ((ang_y2 c arg2 harg2 arg3 harg3 x1 x2 h2).double rfl).double rfl

/-- The rotation by 16 times that angle. -/
theorem ang_y16 (h2 : ∀ s, x2 (ix3 0 0 s) = ((ky s : ℝ) : EReal)) :
    Ang (fun s => tw * ky s) 16 (sl.r_22 c arg2 harg2 arg3 harg3 x1 x2) (sl.r_23 c arg2 harg2 arg3 harg3 x1 x2) :=
  (ang_y8 c arg2 harg2 arg3 harg3 x1 x2 h2).double rfl

/-- The rotation by 64 times that angle. -/
theorem ang_y64 (h2 : ∀ s, x2 (ix3 0 0 s) = ((ky s : ℝ) : EReal)) :
    Ang (fun s => tw * ky s) 64 (sl.r_25 c arg2 harg2 arg3 harg3 x1 x2) (sl.r_26 c arg2 harg2 arg3 harg3 x1 x2) :=
  ((ang_y16 c arg2 harg2 arg3 harg3 x1 x2 h2).double rfl).double rfl

/-- Row 0 of the first table: ones and zeros. -/
theorem tabx_1 (θ : Fin 4096 → ℝ) : Tab (fun _ => 1) θ 1 (sl.HS0_2 (F := Ideal)) := by
  refine Tab.push (Tab.nil _ _) (xr := k0_pay13) (xi := k0_pay14) ?_ rfl rfl (by decide)
  intro r s
  have hr : r = 0 := Subsingleton.elim _ _
  subst hr
  unfold k0_pay13 k0_pay14 k0_pay11
  constructor
  · pointwise
    simp
  · pointwise
    simp

/-- Rows 0 to 1 of the first table. -/
theorem tabx_2 (h1 : ∀ s, x1 (ix3 0 0 s) = ((kx s : ℝ) : EReal)) :
    Tab (fun _ => 1) (fun s => tw * kx s) 2 (sl.HS0_4 c arg2 harg2 arg3 harg3 arg7 x1 x2) :=
  Tab.push (tabx_1 _)
    (blk_cast (Blk.rot_one (Tab.load (tabx_1 _) arg7.view (by decide) (by decide)) (ang_x c arg2 harg2 arg3 harg3 x1 x2 h1)) _ _) rfl rfl (by decide)

/-- Rows 0 to 3 of the first table. -/
theorem tabx_4 (h1 : ∀ s, x1 (ix3 0 0 s) = ((kx s : ℝ) : EReal)) :
    Tab (fun _ => 1) (fun s => tw * kx s) 4 (sl.HS0_6 c arg2 harg2 arg3 harg3 arg7 x1 x2) :=
  Tab.push (tabx_2 c arg2 harg2 arg3 harg3 arg7 x1 x2 h1)
    (blk_cast (Blk.rot (Tab.load (tabx_2 c arg2 harg2 arg3 harg3 arg7 x1 x2 h1) arg7.view (by decide) (by decide)) ((ang_x c arg2 harg2 arg3 harg3 x1 x2 h1).double rfl) _) _ _) rfl rfl (by decide)

/-- Rows 0 to 7 of the first table. -/
theorem tabx_8 (h1 : ∀ s, x1 (ix3 0 0 s) = ((kx s : ℝ) : EReal)) :
    Tab (fun _ => 1) (fun s => tw * kx s) 8 (sl.HS0_8 c arg2 harg2 arg3 harg3 arg7 x1 x2) :=
  Tab.push (tabx_4 c arg2 harg2 arg3 harg3 arg7 x1 x2 h1)
    (blk_cast (Blk.rot (Tab.load (tabx_4 c arg2 harg2 arg3 harg3 arg7 x1 x2 h1) arg7.view (by decide) (by decide)) (ang_x4 c arg2 harg2 arg3 harg3 x1 x2 h1) _) _ _) rfl rfl (by decide)

/-- Rows 0 to 15 of the first table. -/
theorem tabx_16 (h1 : ∀ s, x1 (ix3 0 0 s) = ((kx s : ℝ) : EReal)) :
    Tab (fun _ => 1) (fun s => tw * kx s) 16 (sl.HS0_10 c arg2 harg2 arg3 harg3 arg7 x1 x2) :=
  Tab.push (tabx_8 c arg2 harg2 arg3 harg3 arg7 x1 x2 h1)
    (blk_cast (Blk.rot (Tab.load (tabx_8 c arg2 harg2 arg3 harg3 arg7 x1 x2 h1) arg7.view (by decide) (by decide)) ((ang_x4 c arg2 harg2 arg3 harg3 x1 x2 h1).double rfl) _) _ _) rfl rfl (by decide)

/-- Rows 0 to 31 of the first table. -/
theorem tabx_32 (h1 : ∀ s, x1 (ix3 0 0 s) = ((kx s : ℝ) : EReal)) :
    Tab (fun _ => 1) (fun s => tw * kx s) 32 (sl.HS0_12 c arg2 harg2 arg3 harg3 arg7 x1 x2) :=
  Tab.push (tabx_16 c arg2 harg2 arg3 harg3 arg7 x1 x2 h1)
    (blk_cast (Blk.rot (Tab.load (tabx_16 c arg2 harg2 arg3 harg3 arg7 x1 x2 h1) arg7.view (by decide) (by decide)) (ang_x16 c arg2 harg2 arg3 harg3 x1 x2 h1) _) _ _) rfl rfl (by decide)

/-- Rows 0 to 63 of the first table. -/
theorem tabx_64 (h1 : ∀ s, x1 (ix3 0 0 s) = ((kx s : ℝ) : EReal)) :
    Tab (fun _ => 1) (fun s => tw * kx s) 64 (sl.HS0_14 c arg2 harg2 arg3 harg3 arg7 x1 x2) :=
  Tab.push (tabx_32 c arg2 harg2 arg3 harg3 arg7 x1 x2 h1)
    (blk_cast (Blk.rot (Tab.load (tabx_32 c arg2 harg2 arg3 harg3 arg7 x1 x2 h1) arg7.view (by decide) (by decide)) ((ang_x16 c arg2 harg2 arg3 harg3 x1 x2 h1).double rfl) _) _ _) rfl rfl (by decide)

/-- Rows 0 to 127 of the first table. -/
theorem tabx_128 (h1 : ∀ s, x1 (ix3 0 0 s) = ((kx s : ℝ) : EReal)) :
    Tab (fun _ => 1) (fun s => tw * kx s) 128 (sl.HS0_16 c arg2 harg2 arg3 harg3 arg7 x1 x2) :=
  Tab.push (tabx_64 c arg2 harg2 arg3 harg3 arg7 x1 x2 h1)
    (blk_cast (Blk.rot (Tab.load (tabx_64 c arg2 harg2 arg3 harg3 arg7 x1 x2 h1) arg7.view (by decide) (by decide)) ((ang_x32 c arg2 harg2 arg3 harg3 x1 x2 h1).double rfl) _) _ _) rfl rfl (by decide)

/-- Rows 0 to 135 of the first table. -/
theorem tabx_136 (h1 : ∀ s, x1 (ix3 0 0 s) = ((kx s : ℝ) : EReal)) :
    Tab (fun _ => 1) (fun s => tw * kx s) 136 (sl.HS0_18 c arg2 harg2 arg3 harg3 arg7 x1 x2) :=
  Tab.push (tabx_128 c arg2 harg2 arg3 harg3 arg7 x1 x2 h1)
    (blk_cast (Blk.rot (Tab.load (tabx_128 c arg2 harg2 arg3 harg3 arg7 x1 x2 h1) arg7.view (by decide) (by decide)) (((ang_x32 c arg2 harg2 arg3 harg3 x1 x2 h1).double rfl).double rfl) _) _ _) rfl rfl (by decide)

/-- Row 0 of the second table: the weights and zeros. -/
theorem taby_1 (θ : Fin 4096 → ℝ) (h3 : ∀ s, x3 (ix3 0 0 s) = ((w s : ℝ) : EReal)) : Tab w θ 1 (sl.HS1_2 c arg4 harg4 x3) := by
  refine Tab.push (Tab.nil _ _) (xr := k0_pay50 (sl.r_4 c arg4 harg4 x3)) (xi := k0_pay51 k0_pay11) ?_ rfl rfl (by decide)
  intro r s
  have hr : r = 0 := Subsingleton.elim _ _
  subst hr
  unfold sl.r_4
  rw [read_whole]
  unfold k0_pay50 k0_pay51 k0_pay11 k0_pay12
  constructor
  · pointwise [h3]
    simp
  · pointwise
    simp

/-- Rows 0 to 1 of the second table. -/
theorem taby_2 (h2 : ∀ s, x2 (ix3 0 0 s) = ((ky s : ℝ) : EReal)) (h3 : ∀ s, x3 (ix3 0 0 s) = ((w s : ℝ) : EReal)) :
    Tab w (fun s => tw * ky s) 2 (sl.HS1_4 c arg2 harg2 arg3 harg3 arg4 harg4 arg8 x1 x2 x3) :=
  Tab.push (taby_1 c arg4 harg4 x3 _ h3)
    (blk_cast (Blk.rot_one (Tab.load (taby_1 c arg4 harg4 x3 _ h3) arg8.view (by decide) (by decide)) (ang_y c arg2 harg2 arg3 harg3 x1 x2 h2)) _ _) rfl rfl (by decide)

/-- Rows 0 to 3 of the second table. -/
theorem taby_4 (h2 : ∀ s, x2 (ix3 0 0 s) = ((ky s : ℝ) : EReal)) (h3 : ∀ s, x3 (ix3 0 0 s) = ((w s : ℝ) : EReal)) :
    Tab w (fun s => tw * ky s) 4 (sl.HS1_6 c arg2 harg2 arg3 harg3 arg4 harg4 arg8 x1 x2 x3) :=
  Tab.push (taby_2 c arg2 harg2 arg3 harg3 arg4 harg4 arg8 x1 x2 x3 h2 h3)
    (blk_cast (Blk.rot (Tab.load (taby_2 c arg2 harg2 arg3 harg3 arg4 harg4 arg8 x1 x2 x3 h2 h3) arg8.view (by decide) (by decide)) (ang_y2 c arg2 harg2 arg3 harg3 x1 x2 h2) _) _ _) rfl rfl (by decide)

/-- Rows 0 to 7 of the second table. -/
theorem taby_8 (h2 : ∀ s, x2 (ix3 0 0 s) = ((ky s : ℝ) : EReal)) (h3 : ∀ s, x3 (ix3 0 0 s) = ((w s : ℝ) : EReal)) :
    Tab w (fun s => tw * ky s) 8 (sl.HS1_8 c arg2 harg2 arg3 harg3 arg4 harg4 arg8 x1 x2 x3) :=
  Tab.push (taby_4 c arg2 harg2 arg3 harg3 arg4 harg4 arg8 x1 x2 x3 h2 h3)
    (blk_cast (Blk.rot (Tab.load (taby_4 c arg2 harg2 arg3 harg3 arg4 harg4 arg8 x1 x2 x3 h2 h3) arg8.view (by decide) (by decide)) ((ang_y2 c arg2 harg2 arg3 harg3 x1 x2 h2).double rfl) _) _ _) rfl rfl (by decide)

/-- Rows 0 to 15 of the second table. -/
theorem taby_16 (h2 : ∀ s, x2 (ix3 0 0 s) = ((ky s : ℝ) : EReal)) (h3 : ∀ s, x3 (ix3 0 0 s) = ((w s : ℝ) : EReal)) :
    Tab w (fun s => tw * ky s) 16 (sl.HS1_10 c arg2 harg2 arg3 harg3 arg4 harg4 arg8 x1 x2 x3) :=
  Tab.push (taby_8 c arg2 harg2 arg3 harg3 arg4 harg4 arg8 x1 x2 x3 h2 h3)
    (blk_cast (Blk.rot (Tab.load (taby_8 c arg2 harg2 arg3 harg3 arg4 harg4 arg8 x1 x2 x3 h2 h3) arg8.view (by decide) (by decide)) (ang_y8 c arg2 harg2 arg3 harg3 x1 x2 h2) _) _ _) rfl rfl (by decide)

/-- Rows 0 to 31 of the second table. -/
theorem taby_32 (h2 : ∀ s, x2 (ix3 0 0 s) = ((ky s : ℝ) : EReal)) (h3 : ∀ s, x3 (ix3 0 0 s) = ((w s : ℝ) : EReal)) :
    Tab w (fun s => tw * ky s) 32 (sl.HS1_12 c arg2 harg2 arg3 harg3 arg4 harg4 arg8 x1 x2 x3) :=
  Tab.push (taby_16 c arg2 harg2 arg3 harg3 arg4 harg4 arg8 x1 x2 x3 h2 h3)
    (blk_cast (Blk.rot (Tab.load (taby_16 c arg2 harg2 arg3 harg3 arg4 harg4 arg8 x1 x2 x3 h2 h3) arg8.view (by decide) (by decide)) ((ang_y8 c arg2 harg2 arg3 harg3 x1 x2 h2).double rfl) _) _ _) rfl rfl (by decide)

/-- Rows 0 to 63 of the second table. -/
theorem taby_64 (h2 : ∀ s, x2 (ix3 0 0 s) = ((ky s : ℝ) : EReal)) (h3 : ∀ s, x3 (ix3 0 0 s) = ((w s : ℝ) : EReal)) :
    Tab w (fun s => tw * ky s) 64 (sl.HS1_14 c arg2 harg2 arg3 harg3 arg4 harg4 arg8 x1 x2 x3) :=
  Tab.push (taby_32 c arg2 harg2 arg3 harg3 arg4 harg4 arg8 x1 x2 x3 h2 h3)
    (blk_cast (Blk.rot (Tab.load (taby_32 c arg2 harg2 arg3 harg3 arg4 harg4 arg8 x1 x2 x3 h2 h3) arg8.view (by decide) (by decide)) ((ang_y16 c arg2 harg2 arg3 harg3 x1 x2 h2).double rfl) _) _ _) rfl rfl (by decide)

/-- Rows 0 to 127 of the second table. -/
theorem taby_128 (h2 : ∀ s, x2 (ix3 0 0 s) = ((ky s : ℝ) : EReal)) (h3 : ∀ s, x3 (ix3 0 0 s) = ((w s : ℝ) : EReal)) :
    Tab w (fun s => tw * ky s) 128 (sl.HS1_16 c arg2 harg2 arg3 harg3 arg4 harg4 arg8 x1 x2 x3) :=
  Tab.push (taby_64 c arg2 harg2 arg3 harg3 arg4 harg4 arg8 x1 x2 x3 h2 h3)
    (blk_cast (Blk.rot (Tab.load (taby_64 c arg2 harg2 arg3 harg3 arg4 harg4 arg8 x1 x2 x3 h2 h3) arg8.view (by decide) (by decide)) (ang_y64 c arg2 harg2 arg3 harg3 x1 x2 h2) _) _ _) rfl rfl (by decide)

/-- Rows 0 to 135 of the second table. -/
theorem taby_136 (h2 : ∀ s, x2 (ix3 0 0 s) = ((ky s : ℝ) : EReal)) (h3 : ∀ s, x3 (ix3 0 0 s) = ((w s : ℝ) : EReal)) :
    Tab w (fun s => tw * ky s) 136 (sl.HS1_18 c arg2 harg2 arg3 harg3 arg4 harg4 arg8 x1 x2 x3) :=
  Tab.push (taby_128 c arg2 harg2 arg3 harg3 arg4 harg4 arg8 x1 x2 x3 h2 h3)
    (blk_cast (Blk.rot (Tab.load (taby_128 c arg2 harg2 arg3 harg3 arg4 harg4 arg8 x1 x2 x3 h2 h3) arg8.view (by decide) (by decide)) ((ang_y64 c arg2 harg2 arg3 harg3 x1 x2 h2).double rfl) _) _ _) rfl rfl (by decide)

end Cert.Proof.Table

end
-- ==== Proof.Block.lean ====
/- What one block of the kernel leaves in its two output windows, in every lane, as sums of reals. -/
module

public import proofs.«01_k».proof.Proof.Table

@[expose] public section

set_option maxRecDepth 16384

noncomputable section

namespace Cert.Proof.Block

open Idealize.ShloMosaic Idealize.ShloMosaic.TcCoe Cert.KernelIdeal Cert.KernelIdeal.Gen Cert.Proof.Rows Cert.Proof.Table
open Cert.KernelIdeal.Gen.kernelRun0_A

/-- A sum of reals, read as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `j` of a whole table of weight `w` at the angle `θ`. -/
def trig (w θ : ℝ) (j : ℕ) : ℝ := if j < 136 then w * Real.cos (j * θ) else w * Real.sin (((j - 136 : ℕ) : ℝ) * θ)

/-- Row `g` of the first product: the folded image's row `g` against the first table. -/
def mid (f : ℕ → ℕ → ℝ) (θ : ℝ) (g : ℕ) : ℝ :=
  ∑ j ∈ Finset.range 136, (f g j * Real.cos (j * θ) + f g (136 + j) * Real.sin (j * θ))

/-- Row `k` of the products of the first product's rows with the second table's. -/
def prods (f : ℕ → ℕ → ℝ) (w θx θy : ℝ) (k : ℕ) : ℝ :=
  if k < 136 then mid f θx k * (w * Real.cos (k * θy))
  else if k < 272 then mid f θx (272 + k) * (w * Real.sin (((k - 136 : ℕ) : ℝ) * θy))
  else if k < 408 then mid f θx (k - 136) * (w * Real.cos (((k - 272 : ℕ) : ℝ) * θy))
  else mid f θx (k - 136) * (w * Real.sin (((k - 408 : ℕ) : ℝ) * θy))

/-- The real part's lane: the even rows' real parts less the odd rows' imaginary parts. -/
def outR (f : ℕ → ℕ → ℝ) (w θx θy : ℝ) : ℝ :=
  ∑ k ∈ Finset.range 136, (mid f θx k * (w * Real.cos (k * θy)) - mid f θx (408 + k) * (w * Real.sin (k * θy)))

/-- The imaginary part's lane: the even rows' imaginary parts and the odd rows' real parts. -/
def outI (f : ℕ → ℕ → ℝ) (w θx θy : ℝ) : ℝ :=
  ∑ k ∈ Finset.range 136, (mid f θx (136 + k) * (w * Real.cos (k * θy)) + mid f θx (272 + k) * (w * Real.sin (k * θy)))

/-- A whole row of the first table against a row of the folded image is that row of the first product. -/
theorem mid_eq (f : ℕ → ℕ → ℝ) (θ : ℝ) (g : ℕ) : ∑ j : Fin 272, f g j * trig 1 θ j = mid f θ g := by
  rw [Fin.sum_univ_eq_sum_range (fun j => f g j * trig 1 θ j) 272, mid, Finset.sum_range_add _ 136 136, Finset.sum_add_distrib]
  congr 1
  · refine Finset.sum_congr rfl fun j hj => ?_
    rw [trig, if_pos (Finset.mem_range.1 hj), one_mul]
  · refine Finset.sum_congr rfl fun j hj => ?_
    rw [trig, if_neg (by omega), one_mul, Nat.add_sub_cancel_left]

/-- A sum over the 544 rows of products is a sum over its four parts. -/
theorem sum_544 (F : ℕ → ℝ) : ∑ k : Fin 544, F k
    = ∑ k ∈ Finset.range 136, F k + ∑ k ∈ Finset.range 136, F (136 + k) + ∑ k ∈ Finset.range 136, F (272 + k)
      + ∑ k ∈ Finset.range 136, F (408 + k) := by
  rw [Fin.sum_univ_eq_sum_range F 544, Finset.sum_range_add _ 408 136, Finset.sum_range_add _ 272 136, Finset.sum_range_add _ 136 136]

/-- The four parts of the products. -/
theorem prods_0 (f : ℕ → ℕ → ℝ) (w θx θy : ℝ) {k : ℕ} (h : k < 136) : prods f w θx θy k = mid f θx k * (w * Real.cos (k * θy)) := by
  rw [prods, if_pos h]
theorem prods_1 (f : ℕ → ℕ → ℝ) (w θx θy : ℝ) {k : ℕ} (h : k < 136) :
    prods f w θx θy (136 + k) = mid f θx (408 + k) * (w * Real.sin (k * θy)) := by
  rw [prods, if_neg (by omega), if_pos (by omega), Nat.add_sub_cancel_left, ← Nat.add_assoc]
theorem prods_2 (f : ℕ → ℕ → ℝ) (w θx θy : ℝ) {k : ℕ} (h : k < 136) :
    prods f w θx θy (272 + k) = mid f θx (136 + k) * (w * Real.cos (k * θy)) := by
  rw [prods, if_neg (by omega), if_neg (by omega), if_pos (by omega), Nat.add_sub_cancel_left, show 272 + k - 136 = 136 + k by omega]
theorem prods_3 (f : ℕ → ℕ → ℝ) (w θx θy : ℝ) {k : ℕ} (h : k < 136) :
    prods f w θx θy (408 + k) = mid f θx (272 + k) * (w * Real.sin (k * θy)) := by
  rw [prods, if_neg (by omega), if_neg (by omega), if_neg (by omega), Nat.add_sub_cancel_left, show 408 + k - 136 = 272 + k by omega]

/-- The sum with row 0's signs is the real part. -/
theorem outR_eq (f : ℕ → ℕ → ℝ) (w θx θy : ℝ) :
    ∑ k : Fin 544, (if (k : ℕ) < 136 then (1 : ℝ) else if (k : ℕ) < 272 then -1 else 0) * prods f w θx θy k = outR f w θx θy := by
  rw [sum_544 (fun k => (if k < 136 then (1 : ℝ) else if k < 272 then -1 else 0) * prods f w θx θy k), outR, Finset.sum_sub_distrib,
    sub_eq_add_neg, ← Finset.sum_neg_distrib]
  have e2 : ∑ k ∈ Finset.range 136, (if 272 + k < 136 then (1 : ℝ) else if 272 + k < 272 then -1 else 0) * prods f w θx θy (272 + k) = 0 :=
    Finset.sum_eq_zero fun k _ => by rw [if_neg (by omega), if_neg (by omega), zero_mul]
  have e3 : ∑ k ∈ Finset.range 136, (if 408 + k < 136 then (1 : ℝ) else if 408 + k < 272 then -1 else 0) * prods f w θx θy (408 + k) = 0 :=
    Finset.sum_eq_zero fun k _ => by rw [if_neg (by omega), if_neg (by omega), zero_mul]
  rw [e2, e3, add_zero, add_zero]
  congr 1
  · refine Finset.sum_congr rfl fun k hk => ?_
    have hk' := Finset.mem_range.1 hk
    rw [if_pos hk', one_mul, prods_0 _ _ _ _ hk']
  · refine Finset.sum_congr rfl fun k hk => ?_
    have hk' := Finset.mem_range.1 hk
    rw [if_neg (by omega), if_pos (by omega), prods_1 _ _ _ _ hk', neg_one_mul]

/-- The sum with row 1's signs is the imaginary part. -/
theorem outI_eq (f : ℕ → ℕ → ℝ) (w θx θy : ℝ) :
    ∑ k : Fin 544, (if 272 ≤ (k : ℕ) then (1 : ℝ) else 0) * prods f w θx θy k = outI f w θx θy := by
  rw [sum_544 (fun k => (if 272 ≤ k then (1 : ℝ) else 0) * prods f w θx θy k), outI, Finset.sum_add_distrib]
  have e0 : ∑ k ∈ Finset.range 136, (if 272 ≤ k then (1 : ℝ) else 0) * prods f w θx θy k = 0 :=
    Finset.sum_eq_zero fun k hk => by have := Finset.mem_range.1 hk; rw [if_neg (by omega), zero_mul]
  have e1 : ∑ k ∈ Finset.range 136, (if 272 ≤ 136 + k then (1 : ℝ) else 0) * prods f w θx θy (136 + k) = 0 :=
    Finset.sum_eq_zero fun k hk => by have := Finset.mem_range.1 hk; rw [if_neg (by omega), zero_mul]
  rw [e0, e1, zero_add, zero_add]
  congr 1
  · refine Finset.sum_congr rfl fun k hk => ?_
    have hk' := Finset.mem_range.1 hk
    rw [if_pos (by omega), one_mul, prods_2 _ _ _ _ hk']
  · refine Finset.sum_congr rfl fun k hk => ?_
    have hk' := Finset.mem_range.1 hk
    rw [if_pos (by omega), one_mul, prods_3 _ _ _ _ hk']

/-- The comparisons of a column number with the two bounds. -/
theorem lt_136 : ∀ k : Fin 544, IntOp.cmpi .slt (BitVec.ofNat 32 k) 136#32 = if (k : ℕ) < 136 then 1#1 else 0#1 := by decide +kernel
theorem lt_272 : ∀ k : Fin 544, IntOp.cmpi .slt (BitVec.ofNat 32 k) 272#32 = if (k : ℕ) < 272 then 1#1 else 0#1 := by decide +kernel
theorem ge_272 : ∀ k : Fin 544, IntOp.cmpi .sge (BitVec.ofNat 32 k) 272#32 = if 272 ≤ (k : ℕ) then 1#1 else 0#1 := by decide +kernel

/-- A selection on a decided condition. -/
theorem select_if {α : Type} (p : Prop) [Decidable p] (a b : α) : Scalar.select (if p then 1#1 else 0#1) a b = if p then a else b := by
  split <;> rfl

/-- The literal −1. -/
theorem neg_one : (Ideal.ofBits .f32 0xBF800000#32 : EReal) = ((-1 : ℝ) : EReal) := by
  simp [Ideal.ofBits, Ideal.ieee, -EReal.coe_mul, -EReal.coe_neg]; norm_num

/-- Column `k` of the sign matrix's row 0; -/
theorem sign_0 (k : Fin 544) :
    select k0_pay93 k0_pay91 (select k0_pay94 k0_pay92 (k0_pay95 (F := Ideal))) (ix2 0 k)
      = (((if (k : ℕ) < 136 then (1 : ℝ) else if (k : ℕ) < 272 then -1 else 0 : ℝ)) : EReal) := by
  unfold k0_pay91 k0_pay92 k0_pay93 k0_pay94 k0_pay95
  pointwise [hlo_ix]
  rw [lt_136, lt_272, select_if, select_if, neg_one]
  split
  · exact EReal.coe_one.symm
  · split
    · rfl
    · exact EReal.coe_zero.symm

/-- of its row 1. -/
theorem sign_1 (k : Fin 544) :
    select k0_pay93 k0_pay91 (select k0_pay94 k0_pay92 (k0_pay95 (F := Ideal))) (ix2 1 k)
      = (((if 272 ≤ (k : ℕ) then (1 : ℝ) else 0 : ℝ)) : EReal) := by
  unfold k0_pay91 k0_pay92 k0_pay93 k0_pay94 k0_pay95
  pointwise [hlo_ix]
  rw [ge_272, select_if]
  split
  · exact EReal.coe_one.symm
  · exact EReal.coe_zero.symm

variable (c : Dev nD) (arg1 : Memref sig .tc .vmem S544x272 .f32) (harg1 : arg1.IsWhole)
  (arg2 : Memref sig .tc .vmem S1x1x4096 .f32) (harg2 : arg2.IsWhole) (arg3 : Memref sig .tc .vmem S1x1x4096 .f32) (harg3 : arg3.IsWhole)
  (arg4 : Memref sig .tc .vmem S1x1x4096 .f32) (harg4 : arg4.IsWhole)
  (arg7 arg8 : Memref sig .tc .vmem S272x4096 .f32) (arg9 : Memref sig .tc .vmem S544x4096 .f32)
  (x0 : Vec Ideal S544x272 .f32) (x1 x2 x3 : Vec Ideal S1x1x4096 .f32)
  {kx ky w : Fin 4096 → ℝ} {f : ℕ → ℕ → ℝ}

/-- The folded image's window's one load reads its contents. -/
theorem read_fold (a : Memref sig .tc .vmem S544x272 .f32) (ha : a.IsWhole) (x : Vec Ideal S544x272 .f32) :
    View.readAt (Elt Ideal) a.view (Rect.unit ![0, 0] S544x272.size inb_S544x272_S544x272_0_0).toLoadRect (ha.unread x) = x := by
  show View.readAt (Elt Ideal) a.view (Rect.unit ![0, 0] S544x272.size inb_S544x272_S544x272_0_0) (ha.unread x) = x
  rw [View.readAt_eq_ld, ha.read_unread]
  exact View.ld_unit_lit _ x (by decide)

/-- The first table read whole. -/
theorem table_x (h1 : ∀ s, x1 (ix3 0 0 s) = ((kx s : ℝ) : EReal)) (j : Fin 272) (s : Fin 4096) :
    sl.v397 c arg2 harg2 arg3 harg3 arg7 x1 x2 (ix2 j s) = ((trig 1 (tw * kx s) j : ℝ) : EReal) := by
  have T := tabx_136 c arg2 harg2 arg3 harg3 arg7 x1 x2 h1
  have e : sl.v397 c arg2 harg2 arg3 harg3 arg7 x1 x2 (ix2 j s) = (View.canon (sl.HS0_18 c arg2 harg2 arg3 harg3 arg7 x1 x2) : S272x4096.Idx → Elt Ideal .f32) (ix2 j s) := by
    unfold sl.v397
    rw [View.readCov_eq_canon']
    refine congrArg (View.canon _) ?_
    funext a; refine Fin.ext ?_
    match a with
    | ⟨0, _⟩ => show 0 + 1 * j.val = j.val; omega
    | ⟨1, _⟩ => show 0 + 1 * s.val = s.val; omega
  rw [e]
  by_cases h : j.val < 136
  · rw [trig, if_pos h]; exact (T j.val h s h).1
  · have hj : j.val - 136 < 136 := by omega
    rw [trig, if_neg h]
    refine Eq.trans (congrArg (View.canon _) ?_) (T (j.val - 136) hj s hj).2
    exact congrArg (ix2 · s) (Fin.ext (show j.val = 136 + (j.val - 136) by omega))

/-- The second table's cosine rows; -/
theorem table_y_cos (h2 : ∀ s, x2 (ix3 0 0 s) = ((ky s : ℝ) : EReal)) (h3 : ∀ s, x3 (ix3 0 0 s) = ((w s : ℝ) : EReal)) (r : Fin 136) (s : Fin 4096) :
    sl.v399 c arg2 harg2 arg3 harg3 arg4 harg4 arg8 x1 x2 x3 (ix2 r s) = ((w s * Real.cos (r * (tw * ky s)) : ℝ) : EReal) := by
  have T := (Tab.load (taby_136 c arg2 harg2 arg3 harg3 arg4 harg4 arg8 x1 x2 x3 h2 h3) arg8.view (R := 136)
    (inbr := inb_S272x4096_S136x4096_0_0) (inbi := inb_S272x4096_S136x4096_136_0) (by decide) (by decide) r s).1
  rw [Nat.zero_add] at T
  exact T

/-- its sine rows. -/
theorem table_y_sin (h2 : ∀ s, x2 (ix3 0 0 s) = ((ky s : ℝ) : EReal)) (h3 : ∀ s, x3 (ix3 0 0 s) = ((w s : ℝ) : EReal)) (r : Fin 136) (s : Fin 4096) :
    sl.v400 c arg2 harg2 arg3 harg3 arg4 harg4 arg8 x1 x2 x3 (ix2 r s) = ((w s * Real.sin (r * (tw * ky s)) : ℝ) : EReal) := by
  have T := (Tab.load (taby_136 c arg2 harg2 arg3 harg3 arg4 harg4 arg8 x1 x2 x3 h2 h3) arg8.view (R := 136)
    (inbr := inb_S272x4096_S136x4096_0_0) (inbi := inb_S272x4096_S136x4096_136_0) (by decide) (by decide) r s).2
  rw [Nat.zero_add] at T
  exact T

/-- The first product at a row and a lane, of any two operands that hold reals. -/
theorem product_at (a : FVec Ideal S544x272 .f32) (b : FVec Ideal S272x4096 .f32) {f : ℕ → ℕ → ℝ} {θ : ℝ} (s : Fin 4096)
    (ha : ∀ (g : Fin 544) (j : Fin 272), a (ix2 g j) = ((f g j : ℝ) : EReal)) (hb : ∀ j : Fin 272, b (ix2 j s) = ((trig 1 θ j : ℝ) : EReal))
    (g : Fin 544) : k0_pay85 (F := Ideal) a b (ix2 g s) = ((mid f θ g : ℝ) : EReal) := by
  unfold k0_pay85
  pointwise
  rw [← mid_eq, coe_sum]
  refine Finset.sum_congr rfl fun j _ => ?_
  rw [ha, hb, EReal.coe_mul]

/-- The first product. -/
theorem product_x (h0 : ∀ (g : Fin 544) (j : Fin 272), x0 (ix2 g j) = ((f g j : ℝ) : EReal)) (h1 : ∀ s, x1 (ix3 0 0 s) = ((kx s : ℝ) : EReal))
    (g : Fin 544) (s : Fin 4096) :
    sl.r_29 c arg1 harg1 arg2 harg2 arg3 harg3 arg7 x0 x1 x2 (ix2 g s) = ((mid f (tw * kx s) g : ℝ) : EReal) := by
  unfold sl.r_29
  rw [read_fold]
  exact product_at _ _ s h0 (fun j => table_x c arg2 harg2 arg3 harg3 arg7 x1 x2 h1 j s) g

/-- Rows 408 on of the first product times the second table's sine rows; -/
theorem part_1 (u : FVec Ideal S544x4096 .f32) (t : FVec Ideal S136x4096 .f32) (r : Fin 136) (s : Fin 4096) :
    k0_pay88 (F := Ideal) u t (ix2 r s) = u (ix2 ⟨408 + r, by omega⟩ s) * t (ix2 r s) := by
  unfold k0_pay88
  pointwise

/-- rows 136 on times its cosine rows; -/
theorem part_2 (u : FVec Ideal S544x4096 .f32) (t : FVec Ideal S136x4096 .f32) (r : Fin 136) (s : Fin 4096) :
    k0_pay89 (F := Ideal) u t (ix2 r s) = u (ix2 ⟨136 + r, by omega⟩ s) * t (ix2 r s) := by
  unfold k0_pay89
  pointwise

/-- rows 272 on times its sine rows. -/
theorem part_3 (u : FVec Ideal S544x4096 .f32) (t : FVec Ideal S136x4096 .f32) (r : Fin 136) (s : Fin 4096) :
    k0_pay90 (F := Ideal) u t (ix2 r s) = u (ix2 ⟨272 + r, by omega⟩ s) * t (ix2 r s) := by
  unfold k0_pay90
  pointwise

/-- Rows 0 on of the first product times the second table's cosine rows. -/
theorem part_0 (a : FVec Ideal S544x272 .f32) (b : FVec Ideal S272x4096 .f32) (t : FVec Ideal S136x4096 .f32) (r : Fin 136) (s : Fin 4096) :
    k0_pay87 (k0_pay86 (F := Ideal) a b t) (ix2 r s) = k0_pay85 (F := Ideal) a b (ix2 ⟨r, by omega⟩ s) * t (ix2 r s) := by
  unfold k0_pay87 k0_pay86
  pointwise

/-- The scratch of products read whole. -/
theorem table_p (h0 : ∀ (g : Fin 544) (j : Fin 272), x0 (ix2 g j) = ((f g j : ℝ) : EReal)) (h1 : ∀ s, x1 (ix3 0 0 s) = ((kx s : ℝ) : EReal))
    (h2 : ∀ s, x2 (ix3 0 0 s) = ((ky s : ℝ) : EReal)) (h3 : ∀ s, x3 (ix3 0 0 s) = ((w s : ℝ) : EReal)) (k : Fin 544) (s : Fin 4096) :
    sl.v444 c arg1 harg1 arg2 harg2 arg3 harg3 arg4 harg4 arg7 arg8 arg9 x0 x1 x2 x3 (ix2 k s)
      = ((prods f (w s) (tw * kx s) (tw * ky s) k : ℝ) : EReal) := by
  have hu := fun (g : Fin 544) => product_x c arg1 harg1 arg2 harg2 arg3 harg3 arg7 x0 x1 x2 h0 h1 g s
  have hc := fun (r : Fin 136) => table_y_cos c arg2 harg2 arg3 harg3 arg4 harg4 arg8 x1 x2 x3 h2 h3 r s
  have hs := fun (r : Fin 136) => table_y_sin c arg2 harg2 arg3 harg3 arg4 harg4 arg8 x1 x2 x3 h2 h3 r s
  have e : sl.v444 c arg1 harg1 arg2 harg2 arg3 harg3 arg4 harg4 arg7 arg8 arg9 x0 x1 x2 x3 (ix2 k s) = (View.canon (sl.HS2_4 c arg1 harg1 arg2 harg2 arg3 harg3 arg4 harg4 arg7 arg8 x0 x1 x2 x3) : S544x4096.Idx → Elt Ideal .f32) (ix2 k s) := by
    unfold sl.v444
    rw [View.readCov_eq_canon']
    refine congrArg (View.canon _) ?_
    funext a; refine Fin.ext ?_
    match a with
    | ⟨0, _⟩ => show 0 + 1 * k.val = k.val; omega
    | ⟨1, _⟩ => show 0 + 1 * s.val = s.val; omega
  rw [e]
  unfold sl.HS2_4
  by_cases h0' : k.val < 136
  · refine (canon_out (N := 544) (R := 136) (o := 408) _ _ s k (Or.inl (by omega))).trans ?_
    refine (canon_out (N := 544) (R := 136) (o := 272) _ _ s k (Or.inl (by omega))).trans ?_
    refine (canon_out (N := 544) (R := 136) (o := 136) _ _ s k (Or.inl (by omega))).trans ?_
    refine (canon_in (N := 544) (R := 136) (o := 0) _ _ ⟨k, h0'⟩ s k (by simp)).trans ?_
    refine (part_0 _ _ _ ⟨k, h0'⟩ s).trans ?_
    rw [hc, show k0_pay85 _ _ (ix2 _ s) = _ from hu ⟨k, by omega⟩, prods_0 _ _ _ _ h0', ← EReal.coe_mul]
  · by_cases h1' : k.val < 272
    · refine (canon_out (N := 544) (R := 136) (o := 408) _ _ s k (Or.inl (by omega))).trans ?_
      refine (canon_out (N := 544) (R := 136) (o := 272) _ _ s k (Or.inl (by omega))).trans ?_
      refine (canon_in (N := 544) (R := 136) (o := 136) _ _ ⟨k - 136, by omega⟩ s k (by show k.val = 136 + (k.val - 136); omega)).trans ?_
      refine (part_1 _ _ ⟨k - 136, by omega⟩ s).trans ?_
      have hk : k.val = 136 + (k.val - 136) := by omega
      rw [hs, hu, ← EReal.coe_mul]
      exact congrArg Real.toEReal ((prods_1 f _ _ _ (by omega)).symm.trans (congrArg (prods f _ _ _) hk.symm))
    · by_cases h2' : k.val < 408
      · refine (canon_out (N := 544) (R := 136) (o := 408) _ _ s k (Or.inl (by omega))).trans ?_
        refine (canon_in (N := 544) (R := 136) (o := 272) _ _ ⟨k - 272, by omega⟩ s k (by show k.val = 272 + (k.val - 272); omega)).trans ?_
        refine (part_2 _ _ ⟨k - 272, by omega⟩ s).trans ?_
        have hk : k.val = 272 + (k.val - 272) := by omega
        rw [hc, hu, ← EReal.coe_mul]
        exact congrArg Real.toEReal ((prods_2 f _ _ _ (by omega)).symm.trans (congrArg (prods f _ _ _) hk.symm))
      · refine (canon_in (N := 544) (R := 136) (o := 408) _ _ ⟨k - 408, by omega⟩ s k (by show k.val = 408 + (k.val - 408); omega)).trans ?_
        refine (part_3 _ _ ⟨k - 408, by omega⟩ s).trans ?_
        have hk : k.val = 408 + (k.val - 408) := by omega
        rw [hs, hu, ← EReal.coe_mul]
        exact congrArg Real.toEReal ((prods_3 f _ _ _ (by omega)).symm.trans (congrArg (prods f _ _ _) hk.symm))

/-- The last product's row 0 is the signed sum of the products; -/
theorem row_0 (p : FVec Ideal S544x4096 .f32) (P : ℕ → ℝ) (s : Fin 4096) (hp : ∀ k : Fin 544, p (ix2 k s) = ((P k : ℝ) : EReal)) :
    k0_pay2 k0_pay91 k0_pay92 k0_pay93 k0_pay94 (k0_pay95 (F := Ideal)) p (ix3 0 0 s)
      = ((∑ k : Fin 544, (if (k : ℕ) < 136 then (1 : ℝ) else if (k : ℕ) < 272 then -1 else 0) * P k : ℝ) : EReal) := by
  unfold k0_pay2 k0_pay1
  generalize hR : (∑ k : Fin 544, _ : ℝ) = R
  pointwise
  rw [← hR, coe_sum]
  refine Finset.sum_congr rfl fun k _ => ?_
  rw [EReal.coe_mul]
  exact congrArg₂ (· * ·) (sign_0 k) (hp k)

/-- and its row 1 likewise. -/
theorem row_1 (p : FVec Ideal S544x4096 .f32) (P : ℕ → ℝ) (s : Fin 4096) (hp : ∀ k : Fin 544, p (ix2 k s) = ((P k : ℝ) : EReal)) :
    k0_pay3 k0_pay91 k0_pay92 k0_pay93 k0_pay94 (k0_pay95 (F := Ideal)) p (ix3 0 0 s)
      = ((∑ k : Fin 544, (if 272 ≤ (k : ℕ) then (1 : ℝ) else 0) * P k : ℝ) : EReal) := by
  unfold k0_pay3 k0_pay1
  generalize hR : (∑ k : Fin 544, _ : ℝ) = R
  pointwise
  rw [← hR, coe_sum]
  refine Finset.sum_congr rfl fun k _ => ?_
  rw [EReal.coe_mul]
  exact congrArg₂ (· * ·) (sign_1 k) (hp k)

/-- The first output window's lane is the real part; -/
theorem lane_r (h0 : ∀ (g : Fin 544) (j : Fin 272), x0 (ix2 g j) = ((f g j : ℝ) : EReal)) (h1 : ∀ s, x1 (ix3 0 0 s) = ((kx s : ℝ) : EReal))
    (h2 : ∀ s, x2 (ix3 0 0 s) = ((ky s : ℝ) : EReal)) (h3 : ∀ s, x3 (ix3 0 0 s) = ((w s : ℝ) : EReal)) (s : Fin 4096) :
    k0_pay2 k0_pay91 k0_pay92 k0_pay93 k0_pay94 (k0_pay95 (F := Ideal)) (sl.v444 c arg1 harg1 arg2 harg2 arg3 harg3 arg4 harg4 arg7 arg8 arg9 x0 x1 x2 x3) (ix3 0 0 s)
      = ((outR f (w s) (tw * kx s) (tw * ky s) : ℝ) : EReal) := by
  rw [← outR_eq]
  exact row_0 _ _ s fun k => table_p c arg1 harg1 arg2 harg2 arg3 harg3 arg4 harg4 arg7 arg8 arg9 x0 x1 x2 x3 h0 h1 h2 h3 k s

/-- the second's the imaginary part. -/
theorem lane_i (h0 : ∀ (g : Fin 544) (j : Fin 272), x0 (ix2 g j) = ((f g j : ℝ) : EReal)) (h1 : ∀ s, x1 (ix3 0 0 s) = ((kx s : ℝ) : EReal))
    (h2 : ∀ s, x2 (ix3 0 0 s) = ((ky s : ℝ) : EReal)) (h3 : ∀ s, x3 (ix3 0 0 s) = ((w s : ℝ) : EReal)) (s : Fin 4096) :
    k0_pay3 k0_pay91 k0_pay92 k0_pay93 k0_pay94 (k0_pay95 (F := Ideal)) (sl.v444 c arg1 harg1 arg2 harg2 arg3 harg3 arg4 harg4 arg7 arg8 arg9 x0 x1 x2 x3) (ix3 0 0 s)
      = ((outI f (w s) (tw * kx s) (tw * ky s) : ℝ) : EReal) := by
  rw [← outI_eq]
  exact row_1 _ _ s fun k => table_p c arg1 harg1 arg2 harg2 arg3 harg3 arg4 harg4 arg7 arg8 arg9 x0 x1 x2 x3 h0 h1 h2 h3 k s

end Cert.Proof.Block

end
-- ==== Proof.Fold.lean ====
/- The folding identities: a sum over 256 centred frequencies is a sum over 136 nonnegative ones against the
   folded coefficients, in one direction and then in both. -/
module

public import proofs.«01_k».proof.Proof.Block

@[expose] public section

noncomputable section

namespace Cert.Proof.Fold

open Finset Cert.Proof.Block

/-- The fold of 256 coefficients about the centre 128 with the sign `σ`, kept at 136 places. -/
def fold (σ : ℝ) (h : ℕ → ℝ) (j : ℕ) : ℝ :=
  if j < 128 then h (128 + j) + σ * h (128 - j) else if j = 128 then σ * h 0 else 0

/-- The weight of a folded place: the centre was added to itself, so it counts half. -/
def hf (j : ℕ) : ℝ := if j = 0 then 1 / 2 else 1

/-- One direction: against a function of the parity `σ`, the folded coefficients sum to what the coefficients do. -/
theorem fold_sum_eq (σ : ℝ) (hσ : σ * σ = 1) (h : ℕ → ℝ) (c : ℝ → ℝ) (hc : ∀ t, c (-t) = σ * c t) :
    ∑ j ∈ range 136, fold σ h j * hf j * c j = ∑ n ∈ range 256, h n * c ((n : ℝ) - 128) := by
  have h0 : σ * c 0 = c 0 := by simpa using (hc 0).symm
  have split : ∀ j ∈ range 136, fold σ h j * hf j * c j
      = (if j < 128 then h (128 + j) * c j else 0) + (if 1 ≤ j ∧ j ≤ 128 then σ * h (128 - j) * c j else 0) := by
    intro j _
    unfold fold hf
    rcases Nat.eq_zero_or_pos j with rfl | hj
    · simp only [Nat.cast_zero, show (0 : ℕ) < 128 by decide, if_true, Nat.add_zero, Nat.sub_zero,
        show ¬ (1 ≤ 0 ∧ 0 ≤ 128) by omega, if_false, add_zero]
      linear_combination (h 128 / 2) * h0
    · rw [if_neg (show j ≠ 0 by omega)]
      rcases lt_trichotomy j 128 with hlt | rfl | hgt
      · rw [if_pos hlt, if_pos hlt, if_pos ⟨hj, hlt.le⟩]; ring
      · simp
      · rw [if_neg (by omega), if_neg (by omega), if_neg (by omega), if_neg (by omega)]; ring
  rw [sum_congr rfl split, sum_add_distrib, sum_range_add _ 128 8,
    sum_range_succ' (fun j => if 1 ≤ j ∧ j ≤ 128 then σ * h (128 - j) * c j else 0) 135, sum_range_add _ 128 7,
    sum_range_add _ 128 128, ← sum_range_reflect (fun n => h n * c ((n : ℝ) - 128)) 128]
  have e1 : ∑ j ∈ range 128, (if j < 128 then h (128 + j) * c (j : ℝ) else 0)
      = ∑ j ∈ range 128, h (128 + j) * c (((128 + j : ℕ) : ℝ) - 128) :=
    sum_congr rfl fun j hj => by rw [if_pos (mem_range.1 hj)]; push_cast; ring_nf
  have e2 : ∑ j ∈ range 128, (if 1 ≤ j + 1 ∧ j + 1 ≤ 128 then σ * h (128 - (j + 1)) * c ((j + 1 : ℕ) : ℝ) else 0)
      = ∑ j ∈ range 128, h (128 - 1 - j) * c (((128 - 1 - j : ℕ) : ℝ) - 128) :=
    sum_congr rfl fun j hj => by
      have := mem_range.1 hj
      rw [if_pos (by omega), show 128 - (j + 1) = 128 - 1 - j by omega,
        show (((128 - 1 - j : ℕ) : ℝ) - 128) = -((j + 1 : ℕ) : ℝ) by
          rw [show 128 - 1 - j = 127 - j by omega, Nat.cast_sub (by omega)]; push_cast; ring, hc]
      ring
  rw [e1, e2]
  simp
  ring

/-- The fold is linear in the coefficients: it passes through a weighted sum. -/
theorem fold_sum (τ : ℝ) (s : Finset ℕ) (f : ℕ → ℕ → ℝ) (c : ℕ → ℝ) (r : ℕ) :
    ∑ j ∈ s, fold τ (fun m => f m j) r * c j = fold τ (fun m => ∑ j ∈ s, f m j * c j) r := by
  unfold fold
  split_ifs
  · rw [mul_sum, ← sum_add_distrib]; exact sum_congr rfl fun j _ => by ring
  · rw [mul_sum]; exact sum_congr rfl fun j _ => by ring
  · simp

/-- The fold is linear in the coefficients: it passes through a sum of two. -/
theorem fold_add (τ ε : ℝ) (f g : ℕ → ℝ) (r : ℕ) : fold τ f r + ε * fold τ g r = fold τ (fun m => f m + ε * g m) r := by
  unfold fold; split_ifs <;> ring

/-- With the odd sign the centre folds to zero, so its weight does not matter. -/
theorem fold_neg_hf (h : ℕ → ℝ) (j : ℕ) : fold (-1) h j * hf j = fold (-1) h j := by
  unfold hf; split_ifs with hj
  · subst hj; simp [fold]
  · ring

/-- The image `X` folded in both directions, by the sign `τ` along the second and `σ` along the first. -/
def fold2 (τ σ : ℝ) (X : ℕ → ℕ → ℝ) (r j : ℕ) : ℝ := fold τ (fun m => fold σ (fun n => X n m) j) r

/-- The transform of column `m` along the first direction, with `ε` the sign of the sine part. -/
def col (ε : ℝ) (X Y : ℕ → ℕ → ℝ) (θ : ℝ) (m : ℕ) : ℝ :=
  ∑ n ∈ range 256, X n m * Real.cos (((n : ℝ) - 128) * θ) + ε * ∑ n ∈ range 256, Y n m * Real.sin (((n : ℝ) - 128) * θ)

/-- A row of the twice folded image against the first table is the fold of the columns' transforms. -/
theorem row_eq (τ ε : ℝ) (X Y : ℕ → ℕ → ℝ) (θ : ℝ) (r : ℕ) :
    ∑ j ∈ range 136, (fold2 τ 1 X r j * hf j * Real.cos (j * θ) + ε * (fold2 τ (-1) Y r j * hf j) * Real.sin (j * θ))
      = fold τ (col ε X Y θ) r := by
  have hC := fun m => fold_sum_eq 1 (by norm_num) (fun n => X n m) (fun t => Real.cos (t * θ)) fun t => by
    simp only [neg_mul, Real.cos_neg, one_mul]
  have hS := fun m => fold_sum_eq (-1) (by norm_num) (fun n => Y n m) (fun t => Real.sin (t * θ)) fun t => by
    simp only [neg_mul, Real.sin_neg, one_mul]
  have hX := fold_sum τ (range 136) (fun m j => fold 1 (fun n => X n m) j) (fun j => hf j * Real.cos (j * θ)) r
  have hY := fold_sum τ (range 136) (fun m j => fold (-1) (fun n => Y n m) j) (fun j => hf j * Real.sin (j * θ)) r
  simp only [← mul_assoc, hC, hS] at hX hY
  have := fold_add τ ε (fun m => ∑ n ∈ range 256, X n m * Real.cos (((n : ℝ) - 128) * θ))
    (fun m => ∑ n ∈ range 256, Y n m * Real.sin (((n : ℝ) - 128) * θ)) r
  unfold fold2 col
  rw [← this, ← hX, ← hY, mul_sum, ← sum_add_distrib]
  exact sum_congr rfl fun j _ => by ring

/-- The folded image that the kernel is given: four groups of 136 rows, two of 136 columns. -/
def img (X Y : ℕ → ℕ → ℝ) (g j : ℕ) : ℝ :=
  if g < 136 then
    if j < 136 then fold2 1 1 X g j * hf j * hf g else -(fold2 1 (-1) Y g (j - 136) * hf (j - 136) * hf g)
  else if g < 272 then
    if j < 136 then fold2 1 1 Y (g - 136) j * hf j * hf (g - 136)
    else fold2 1 (-1) X (g - 136) (j - 136) * hf (j - 136) * hf (g - 136)
  else if g < 408 then
    if j < 136 then fold2 (-1) 1 X (g - 272) j * hf j else -(fold2 (-1) (-1) Y (g - 272) (j - 136) * hf (j - 136))
  else
    if j < 136 then fold2 (-1) 1 Y (g - 408) j * hf j else fold2 (-1) (-1) X (g - 408) (j - 136) * hf (j - 136)

section
variable (X Y : ℕ → ℕ → ℝ) (θ : ℝ) {k : ℕ} (hk : k < 136)
include hk

/-- First group of rows: the even fold of the transform's real part, the centre halved. -/
theorem mid_0 : mid (img X Y) θ k = fold 1 (col (-1) X Y θ) k * hf k := by
  rw [← row_eq, mid, sum_mul]
  refine sum_congr rfl fun j hj => ?_
  have := mem_range.1 hj
  simp only [img, hk, this, show ¬ (136 + j < 136) by omega, if_true, if_false,
    Nat.add_sub_cancel_left]
  ring

/-- Second group: the even fold of the imaginary part, the centre halved. -/
theorem mid_1 : mid (img X Y) θ (136 + k) = fold 1 (col 1 Y X θ) k * hf k := by
  rw [← row_eq, mid, sum_mul]
  refine sum_congr rfl fun j hj => ?_
  have := mem_range.1 hj
  simp only [img, show ¬ (136 + k < 136) by omega, show 136 + k < 272 by omega, this, show ¬ (136 + j < 136) by omega, if_true, if_false,
    Nat.add_sub_cancel_left]
  ring

/-- Third group: the odd fold of the real part. -/
theorem mid_2 : mid (img X Y) θ (272 + k) = fold (-1) (col (-1) X Y θ) k := by
  rw [← row_eq, mid]
  refine sum_congr rfl fun j hj => ?_
  have := mem_range.1 hj
  simp only [img, show ¬ (272 + k < 136) by omega, show ¬ (272 + k < 272) by omega, show 272 + k < 408 by omega, this, show ¬ (136 + j < 136) by omega, if_true, if_false,
    Nat.add_sub_cancel_left]
  ring

/-- Fourth group: the odd fold of the imaginary part. -/
theorem mid_3 : mid (img X Y) θ (408 + k) = fold (-1) (col 1 Y X θ) k := by
  rw [← row_eq, mid]
  refine sum_congr rfl fun j hj => ?_
  have := mem_range.1 hj
  simp only [img, show ¬ (408 + k < 136) by omega, show ¬ (408 + k < 272) by omega, show ¬ (408 + k < 408) by omega, this, show ¬ (136 + j < 136) by omega, if_true, if_false,
    Nat.add_sub_cancel_left]
  ring
end

/-- A weighted sum over the folded second direction, cosine part from `A` and sine part from `B`, is the sum over the
    256 frequencies. -/
theorem both (A B : ℕ → ℝ) (w ε θ : ℝ) :
    ∑ k ∈ range 136, (fold 1 A k * hf k * (w * Real.cos (k * θ)) + ε * (fold (-1) B k * (w * Real.sin (k * θ))))
      = w * ∑ m ∈ range 256, (A m * Real.cos (((m : ℝ) - 128) * θ) + ε * (B m * Real.sin (((m : ℝ) - 128) * θ))) := by
  have hC := fold_sum_eq 1 (by norm_num) A (fun t => Real.cos (t * θ)) fun t => by
    simp only [neg_mul, Real.cos_neg, one_mul]
  have hS := fold_sum_eq (-1) (by norm_num) B (fun t => Real.sin (t * θ)) fun t => by
    simp only [neg_mul, Real.sin_neg, one_mul]
  have eC : ∑ k ∈ range 136, fold 1 A k * hf k * (w * Real.cos (k * θ))
      = w * ∑ m ∈ range 256, A m * Real.cos (((m : ℝ) - 128) * θ) := by
    rw [← hC, mul_sum]; exact sum_congr rfl fun k _ => by ring
  have eS : ∑ k ∈ range 136, fold (-1) B k * (w * Real.sin (k * θ))
      = w * ∑ m ∈ range 256, B m * Real.sin (((m : ℝ) - 128) * θ) := by
    rw [← hS, mul_sum]; exact sum_congr rfl fun k _ => by rw [fold_neg_hf]; ring
  rw [sum_add_distrib, sum_add_distrib, ← mul_sum _ _ ε, ← mul_sum _ _ ε, eC, eS]; ring

/-- The real part of the kernel's lane is the weighted transform over all 256 × 256 frequencies. -/
theorem outR_eq (X Y : ℕ → ℕ → ℝ) (w θx θy : ℝ) : outR (img X Y) w θx θy
    = w * ∑ m ∈ range 256, (col (-1) X Y θx m * Real.cos (((m : ℝ) - 128) * θy)
        + -1 * (col 1 Y X θx m * Real.sin (((m : ℝ) - 128) * θy))) := by
  rw [← both]
  refine sum_congr rfl fun k hk => ?_
  rw [mid_0 X Y θx (mem_range.1 hk), mid_3 X Y θx (mem_range.1 hk)]; ring

/-- The imaginary part likewise. -/
theorem outI_eq (X Y : ℕ → ℕ → ℝ) (w θx θy : ℝ) : outI (img X Y) w θx θy
    = w * ∑ m ∈ range 256, (col 1 Y X θx m * Real.cos (((m : ℝ) - 128) * θy)
        + 1 * (col (-1) X Y θx m * Real.sin (((m : ℝ) - 128) * θy))) := by
  rw [← both]
  refine sum_congr rfl fun k hk => ?_
  rw [mid_1 X Y θx (mem_range.1 hk), mid_2 X Y θx (mem_range.1 hk)]; ring

end Cert.Proof.Fold
-- ==== Proof.Host.lean ====
/- What the host computes before the launch: the folded image and the launch's other operands, entry by entry. -/
module

public import proofs.«01_k».proof.Proof.Fold
public import Idealize.ShloMosaic.Lib.StableHlo.ReadAt

@[expose] public section

set_option maxRecDepth 16384

noncomputable section

namespace Cert.Proof.Host

open Idealize.ShloMosaic Idealize.ShloMosaic.TcCoe Cert.KernelIdeal Cert.KernelIdeal.Gen Cert.Proof.Fold

/-- The even fold of the columns. -/
def cP (x : FVec Ideal S256x256 .f32) : FVec Ideal S256x136 .f32 :=
  concatenate S256x136 1
    [⟨S256x128, addf (extractStridedSlice S256x128 ![0, 128] x slices_S256x256_S256x128_0_128)
      (Host.reverse [1] (extractStridedSlice S256x128 ![0, 1] x slices_S256x256_S256x128_0_1))⟩,
     ⟨S256x1, extractStridedSlice S256x1 ![0, 0] x slices_S256x256_S256x1_0_0⟩,
     ⟨S256x7, broadcastInDim S256x7 ![] bcast_S_S256x7 (constant S_ .f32 0x00000000#32)⟩]
    concatenates_S256x128_S256x1_S256x7_S256x136_d1

/-- The odd fold of the columns. -/
def cM (x : FVec Ideal S256x256 .f32) : FVec Ideal S256x136 .f32 :=
  concatenate S256x136 1
    [⟨S256x128, subf (extractStridedSlice S256x128 ![0, 128] x slices_S256x256_S256x128_0_128)
      (Host.reverse [1] (extractStridedSlice S256x128 ![0, 1] x slices_S256x256_S256x128_0_1))⟩,
     ⟨S256x1, Host.negf (extractStridedSlice S256x1 ![0, 0] x slices_S256x256_S256x1_0_0)⟩,
     ⟨S256x7, broadcastInDim S256x7 ![] bcast_S_S256x7 (constant S_ .f32 0x00000000#32)⟩]
    concatenates_S256x128_S256x1_S256x7_S256x136_d1

/-- The even fold of the rows. -/
def rP (x : FVec Ideal S256x136 .f32) : FVec Ideal S136x136 .f32 :=
  concatenate S136x136 0
    [⟨S128x136, addf (extractStridedSlice S128x136 ![128, 0] x slices_S256x136_S128x136_128_0)
      (Host.reverse [0] (extractStridedSlice S128x136 ![1, 0] x slices_S256x136_S128x136_1_0))⟩,
     ⟨S1x136, extractStridedSlice S1x136 ![0, 0] x slices_S256x136_S1x136_0_0⟩,
     ⟨S7x136, broadcastInDim S7x136 ![] bcast_S_S7x136 (constant S_ .f32 0x00000000#32)⟩]
    concatenates_S128x136_S1x136_S7x136_S136x136_d0

/-- The odd fold of the rows. -/
def rM (x : FVec Ideal S256x136 .f32) : FVec Ideal S136x136 .f32 :=
  concatenate S136x136 0
    [⟨S128x136, subf (extractStridedSlice S128x136 ![128, 0] x slices_S256x136_S128x136_128_0)
      (Host.reverse [0] (extractStridedSlice S128x136 ![1, 0] x slices_S256x136_S128x136_1_0))⟩,
     ⟨S1x136, Host.negf (extractStridedSlice S1x136 ![0, 0] x slices_S256x136_S1x136_0_0)⟩,
     ⟨S7x136, broadcastInDim S7x136 ![] bcast_S_S7x136 (constant S_ .f32 0x00000000#32)⟩]
    concatenates_S128x136_S1x136_S7x136_S136x136_d0

/-- The row of weights: a half, then ones. -/
def half : FVec Ideal S1x136 .f32 :=
  Host.scatter scatter_S1x136_S2_S__n_01_01_0 (fun _ b => b)
    (broadcastInDim S1x136 ![] bcast_S_S1x136 (constant S_ .f32 0x3F800000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0)
    (constant S_ .f32 0x3F000000#32)

/-- The columns weighed. -/
def wc (h : FVec Ideal S1x136 .f32) (x : FVec Ideal S136x136 .f32) : FVec Ideal S136x136 .f32 :=
  mulf x (broadcastInDim S136x136 ![0, 1] bcast_S1x136_S136x136_0_1 h)

/-- The rows weighed. -/
def wr (h : FVec Ideal S1x136 .f32) (x : FVec Ideal S136x136 .f32) : FVec Ideal S136x136 .f32 :=
  mulf x (broadcastInDim S136x136 ![0, 1] bcast_S136x1_S136x136_0_1
    (transpose S136x1 [1, 0] h transposes_S1x136_S136x1_1_0))

/-- Two squares side by side. -/
def beside (x y : FVec Ideal S136x136 .f32) : FVec Ideal S136x272 .f32 :=
  concatenate S136x272 1 [⟨S136x136, x⟩, ⟨S136x136, y⟩] concatenates_S136x136_S136x136_S136x272_d1

/-- A row of three pieces depends on the pieces alone. -/
theorem cat3 {S s₁ s₂ s₃ : Shape} {d : Fin S.rank} {a a' : FVec Ideal s₁ .f32} {b b' : FVec Ideal s₂ .f32}
    {e e' : FVec Ideal s₃ .f32} (h) (h₁ : a = a') (h₂ : b = b') (h₃ : e = e') :
    concatenate S d [⟨s₁, a⟩, ⟨s₂, b⟩, ⟨s₃, e⟩] h = concatenate S d [⟨s₁, a'⟩, ⟨s₂, b'⟩, ⟨s₃, e'⟩] h := by
  subst h₁ h₂ h₃; rfl

section
variable (m : (ℓ : Loc nD τ sig) → Buf (Elt Ideal) ℓ) (c : Dev nD)

/-- What the host's operations before the launch leave in a buffer. -/
abbrev A (b : Ref sig .tc) : Buf (Elt Ideal) ((c : Thread nD τ).loc b) :=
  StableHlo.after hostOps0 (fun b => m (c, b)) (Proc.devRef .tc b)

set_option maxHeartbeats 4000000 in
/-- The four folds of columns. -/
theorem cols_eq : A m c main_v12 = cP (A m c main_v2) ∧ A m c main_v16 = cM (A m c main_v2)
    ∧ A m c main_v23 = cP (A m c main_v5) ∧ A m c main_v27 = cM (A m c main_v5) := by
  simp only [A, cP, cM]
  refine ⟨?_, ?_, ?_, ?_⟩ <;> after_reads_simp <;> dsimp only [Matrix.cons_val] <;> refine cat3 _ ?_ ?_ ?_ <;>
    after_reads_simp

set_option maxHeartbeats 4000000 in
/-- The eight folds of rows. -/
theorem rows_eq : A m c main_v34 = rP (A m c main_v12) ∧ A m c main_v38 = rM (A m c main_v12)
    ∧ A m c main_v45 = rP (A m c main_v23) ∧ A m c main_v49 = rM (A m c main_v23)
    ∧ A m c main_v56 = rP (A m c main_v16) ∧ A m c main_v60 = rM (A m c main_v16)
    ∧ A m c main_v67 = rP (A m c main_v27) ∧ A m c main_v71 = rM (A m c main_v27) := by
  simp only [A, rP, rM]
  refine ⟨?_, ?_, ?_, ?_, ?_, ?_, ?_, ?_⟩ <;> after_reads_simp <;> dsimp only [Matrix.cons_val] <;>
    refine cat3 _ ?_ ?_ ?_ <;> after_reads_simp

/-- A pair of pieces depends on the pieces alone. -/
theorem cat2 {S s₁ s₂ : Shape} {d : Fin S.rank} {α : Type} {a a' : s₁.Idx → α} {b b' : s₂.Idx → α}
    (h) (h₁ : a = a') (h₂ : b = b') :
    concatenate S d [⟨s₁, a⟩, ⟨s₂, b⟩] h = concatenate S d [⟨s₁, a'⟩, ⟨s₂, b'⟩] h := by
  subst h₁ h₂; rfl

/-- Four pieces likewise. -/
theorem cat4 {S s₁ s₂ s₃ s₄ : Shape} {d : Fin S.rank} {a a' : FVec Ideal s₁ .f32} {b b' : FVec Ideal s₂ .f32}
    {e e' : FVec Ideal s₃ .f32} {f f' : FVec Ideal s₄ .f32} (h) (h₁ : a = a') (h₂ : b = b') (h₃ : e = e') (h₄ : f = f') :
    concatenate S d [⟨s₁, a⟩, ⟨s₂, b⟩, ⟨s₃, e⟩, ⟨s₄, f⟩] h
      = concatenate S d [⟨s₁, a'⟩, ⟨s₂, b'⟩, ⟨s₃, e'⟩, ⟨s₄, f'⟩] h := by
  subst h₁ h₂ h₃ h₄; rfl

set_option maxHeartbeats 4000000 in
/-- The row of weights. -/
theorem half_eq : A m c main_v76 = half := by
  simp only [A, half]
  after_reads_simp
  refine congrArg (fun i => Host.scatter scatter_S1x136_S2_S__n_01_01_0 (fun _ b => b)
    (broadcastInDim S1x136 ![] bcast_S_S1x136 (constant (F := Ideal) S_ .f32 0x3F800000#32)) i (constant (F := Ideal) S_ .f32 0x3F000000#32)) ?_
  refine cat2 _ ?_ ?_ <;> after_reads_simp

set_option maxHeartbeats 4000000 in
/-- The launch's first operand is the folded image, in terms of the folds of rows and the row of weights. -/
theorem fc_eq : A m c main_v108 = concatenate S544x272 0
    [⟨S136x272, beside (wr (A m c main_v76) (wc (A m c main_v76) (A m c main_v34))) (Host.negf (wr (A m c main_v76) (wc (A m c main_v76) (A m c main_v67))))⟩,
     ⟨S136x272, beside (wr (A m c main_v76) (wc (A m c main_v76) (A m c main_v45))) (wr (A m c main_v76) (wc (A m c main_v76) (A m c main_v56)))⟩,
     ⟨S136x272, beside (wc (A m c main_v76) (A m c main_v38)) (Host.negf (wc (A m c main_v76) (A m c main_v71)))⟩,
     ⟨S136x272, beside (wc (A m c main_v76) (A m c main_v49)) (wc (A m c main_v76) (A m c main_v60))⟩]
    concatenates_S136x272_S136x272_S136x272_S136x272_S544x272_d0 := by
  simp only [A, beside, wr, wc]
  after_reads_simp
  dsimp only [Matrix.cons_val]
  refine cat4 _ ?_ ?_ ?_ ?_ <;> after_reads_simp <;> refine cat2 _ ?_ ?_ <;> after_reads_simp
end
end Cert.Proof.Host
-- ==== Proof.Image.lean ====
/- The launch's operands entry by entry: the folded image, the two coordinates and the weight. -/
module

public import proofs.«01_k».proof.Proof.Host
public import Idealize.ShloMosaic.Lib.Routing.OpsOne

@[expose] public section

set_option maxRecDepth 16384

noncomputable section

namespace Cert.Proof.Image

open Idealize.ShloMosaic Idealize.ShloMosaic.TcCoe Cert.KernelIdeal Cert.KernelIdeal.Gen Cert.Proof.Fold Cert.Proof.Host

/-- A fold read by cases: the sum in the first 128 places, the first coefficient in the next, then zeros. -/
theorem fold_cases (σ : ℝ) (h : ℕ → ℝ) (j : ℕ) (e : EReal) (h₁ : j < 128 → e = ((h (128 + j) + σ * h (128 - j) : ℝ) : EReal))
    (h₂ : j = 128 → e = ((σ * h 0 : ℝ) : EReal)) (h₃ : 128 < j → e = 0) : e = ((fold σ h j : ℝ) : EReal) := by
  unfold fold
  split_ifs with hj hj
  · exact h₁ hj
  · exact h₂ hj
  · rw [h₃ (by omega)]; rfl

section
variable (x : FVec Ideal S256x256 .f32) (X : ℕ → ℕ → ℝ) (hx : ∀ i j : Fin 256, x (ix2 i j) = ((X j i : ℝ) : EReal))
include hx

/-- The even fold of the columns at an entry. -/
theorem cP_at (i : Fin 256) (j : Fin 136) : cP x (ix2 i j) = ((fold 1 (fun n => X n i) j : ℝ) : EReal) := by
  unfold cP
  refine fold_cases _ _ _ _ (fun h => ?_) (fun h => ?_) fun h => ?_
  · pointwise [hx, h]
    show (X (128 + j) i : EReal) + (X (1 + (128 - (j + 1))) i : ℝ) = _
    rw [show 1 + (128 - (j.val + 1)) = 128 - j by omega, EReal.coe_add]
  · pointwise [hx, h]
  · pointwise [hx]
    rw [dif_neg (by omega), dif_neg (by omega)]

/-- The odd fold of the columns at an entry. -/
theorem cM_at (i : Fin 256) (j : Fin 136) : cM x (ix2 i j) = ((fold (-1) (fun n => X n i) j : ℝ) : EReal) := by
  unfold cM
  refine fold_cases _ _ _ _ (fun h => ?_) (fun h => ?_) fun h => ?_
  · pointwise [hx, h]
    show (X (128 + j) i : EReal) - (X (1 + (128 - (j + 1))) i : ℝ) = _
    rw [show 1 + (128 - (j.val + 1)) = 128 - j by omega, neg_one_mul, ← sub_eq_add_neg, EReal.coe_sub]
  · pointwise [hx, h]
    rw [neg_one_mul, EReal.coe_neg]
  · pointwise [hx]
    rw [dif_neg (by omega), dif_neg (by omega)]
end

/-- The row of weights at an entry. -/
theorem half_at (j : Fin 136) : half (ix2 0 j) = ((hf j : ℝ) : EReal) := by
  unfold half hf
  refine (Routing.scatter_cell_signed (R := 1) (C := 136) scatter_S1x136_S2_S__n_01_01_0 rfl rfl rfl _ _ _ 0 j).trans ?_
  pointwise
  have e : Ideal.ofBits FTy.f32 1056964608#32 = ((1 / 2 : ℝ) : EReal) := by
    simp [Ideal.ofBits, Ideal.ieee, -EReal.coe_mul, -EReal.coe_neg]; norm_num
  rw [e]
  by_cases h : j.val = 0
  · rw [if_pos h, if_pos ⟨rfl, by rw [h]; rfl⟩]
  · rw [if_neg h, if_neg fun h' => h (by simpa using h'.2.symm)]; rfl

section
variable (x : FVec Ideal S256x136 .f32) (b : ℕ → ℕ → ℝ) (hx : ∀ (i : Fin 256) (j : Fin 136), x (ix2 i j) = ((b i j : ℝ) : EReal))
include hx

/-- The even fold of the rows at an entry. -/
theorem rP_at (r j : Fin 136) : rP x (ix2 r j) = ((fold 1 (fun i => b i j) r : ℝ) : EReal) := by
  unfold rP
  refine fold_cases _ _ _ _ (fun h => ?_) (fun h => ?_) fun h => ?_
  · pointwise [hx, h]
    show (b (128 + r) j : EReal) + (b (1 + (128 - (r + 1))) j : ℝ) = _
    rw [show 1 + (128 - (r.val + 1)) = 128 - r by omega, EReal.coe_add]
  · pointwise [hx, h]
  · pointwise [hx]
    rw [dif_neg (by omega), dif_neg (by omega)]

/-- The odd fold of the rows at an entry. -/
theorem rM_at (r j : Fin 136) : rM x (ix2 r j) = ((fold (-1) (fun i => b i j) r : ℝ) : EReal) := by
  unfold rM
  refine fold_cases _ _ _ _ (fun h => ?_) (fun h => ?_) fun h => ?_
  · pointwise [hx, h]
    show (b (128 + r) j : EReal) - (b (1 + (128 - (r + 1))) j : ℝ) = _
    rw [show 1 + (128 - (r.val + 1)) = 128 - r by omega, neg_one_mul, ← sub_eq_add_neg, EReal.coe_sub]
  · pointwise [hx, h]
    rw [neg_one_mul, EReal.coe_neg]
  · pointwise [hx]
    rw [dif_neg (by omega), dif_neg (by omega)]
end

section
variable (h : FVec Ideal S1x136 .f32) (hh : ∀ j : Fin 136, h (ix2 0 j) = ((hf j : ℝ) : EReal))
  (x : FVec Ideal S136x136 .f32) (b : ℕ → ℕ → ℝ) (hx : ∀ r j : Fin 136, x (ix2 r j) = ((b r j : ℝ) : EReal))
include hh hx

/-- The weighed columns at an entry. -/
theorem wc_at (r j : Fin 136) : wc h x (ix2 r j) = ((b r j * hf j : ℝ) : EReal) := by
  unfold wc
  pointwise [hh, hx]
  rw [EReal.coe_mul]

/-- The weighed rows at an entry. -/
theorem wr_at (r j : Fin 136) : wr h x (ix2 r j) = ((b r j * hf r : ℝ) : EReal) := by
  unfold wr
  pointwise [hh, hx]
  rw [EReal.coe_mul]
end

/-- The negation at an entry. -/
theorem neg_at (x : FVec Ideal S136x136 .f32) (b : ℕ → ℕ → ℝ) (hx : ∀ r j : Fin 136, x (ix2 r j) = ((b r j : ℝ) : EReal))
    (r j : Fin 136) : Host.negf x (ix2 r j) = ((-b r j : ℝ) : EReal) := by
  pointwise [hx]
  rw [EReal.coe_neg]

/-- Two squares side by side at an entry. -/
theorem beside_at (x y : FVec Ideal S136x136 .f32) (p q : ℕ → ℕ → ℝ)
    (hx : ∀ r j : Fin 136, x (ix2 r j) = ((p r j : ℝ) : EReal)) (hy : ∀ r j : Fin 136, y (ix2 r j) = ((q r j : ℝ) : EReal))
    (r : Fin 136) (j : Fin 272) : beside x y (ix2 r j) = ((if j.val < 136 then p r j else q r (j - 136) : ℝ) : EReal) := by
  unfold beside
  by_cases h : j.val < 136
  · rw [if_pos h]; pointwise [hx, h]
  · rw [if_neg h]; pointwise [hy, h]

/-- Four bands of rows at an entry. -/
theorem stack_at (x₀ x₁ x₂ x₃ : FVec Ideal S136x272 .f32) (p₀ p₁ p₂ p₃ : ℕ → ℕ → ℝ)
    (h₀ : ∀ (r : Fin 136) (j : Fin 272), x₀ (ix2 r j) = ((p₀ r j : ℝ) : EReal))
    (h₁ : ∀ (r : Fin 136) (j : Fin 272), x₁ (ix2 r j) = ((p₁ r j : ℝ) : EReal))
    (h₂ : ∀ (r : Fin 136) (j : Fin 272), x₂ (ix2 r j) = ((p₂ r j : ℝ) : EReal))
    (h₃ : ∀ (r : Fin 136) (j : Fin 272), x₃ (ix2 r j) = ((p₃ r j : ℝ) : EReal)) (g : Fin 544) (j : Fin 272) :
    concatenate S544x272 0 [⟨S136x272, x₀⟩, ⟨S136x272, x₁⟩, ⟨S136x272, x₂⟩, ⟨S136x272, x₃⟩]
        concatenates_S136x272_S136x272_S136x272_S136x272_S544x272_d0 (ix2 g j)
      = ((if g.val < 136 then p₀ g j else if g.val < 272 then p₁ (g - 136) j else if g.val < 408 then p₂ (g - 272) j
          else p₃ (g - 408) j : ℝ) : EReal) := by
  pointwise [h₀, h₁, h₂, h₃]
  by_cases c₀ : g.val < 136
  · rw [if_pos c₀, dif_pos c₀]
  rw [if_neg c₀, dif_neg c₀]
  by_cases c₁ : g.val < 272
  · rw [if_pos c₁, dif_pos (by omega)]
  rw [if_neg c₁, dif_neg (by omega), Nat.sub_sub, Nat.sub_sub]
  by_cases c₂ : g.val < 408
  · rw [if_pos c₂, dif_pos (by omega)]
  · rw [if_neg c₂, dif_neg (by omega)]

section
variable (m : (ℓ : Loc nD τ sig) → Buf (Elt Ideal) ℓ) (c : Dev nD)

theorem xr_at (i j : Fin 256) : (A m c main_v2 : FVec Ideal S256x256 .f32) (ix2 i j)
    = (m ((c : Thread nD τ).loc main_arg0) : FVec Ideal S256x256x2 .f32) (ix3 j i 0) := by
  simp only [A]
  after_reads_at

theorem xi_at (i j : Fin 256) : (A m c main_v5 : FVec Ideal S256x256 .f32) (ix2 i j)
    = (m ((c : Thread nD τ).loc main_arg0) : FVec Ideal S256x256x2 .f32) (ix3 j i 1) := by
  simp only [A]
  after_reads_at

theorem kx_at (b : Fin 8) (s : Fin 4096) : (A m c main_v111 : FVec Ideal S8x1x4096 .f32) (ix3 b 0 s)
    = (m ((c : Thread nD τ).loc main_arg1) : FVec Ideal S2x32768 .f32) (ix2 0 ⟨b * 4096 + s, by omega⟩) := by
  simp only [A]
  after_reads_at

theorem ky_at (b : Fin 8) (s : Fin 4096) : (A m c main_v114 : FVec Ideal S8x1x4096 .f32) (ix3 b 0 s)
    = (m ((c : Thread nD τ).loc main_arg1) : FVec Ideal S2x32768 .f32) (ix2 1 ⟨b * 4096 + s, by omega⟩) := by
  simp only [A]
  after_reads_at

theorem w_at (b : Fin 8) (s : Fin 4096) : (A m c main_v116 : FVec Ideal S8x1x4096 .f32) (ix3 b 0 s)
    = Ideal.sqrt ((m ((c : Thread nD τ).loc main_arg2) : FVec Ideal S32768 .f32) (ix1 ⟨b * 4096 + s, by omega⟩)) := by
  simp only [A]
  after_reads_at

variable (X Y : ℕ → ℕ → ℝ)
  (hX : ∀ n k : Fin 256, (m ((c : Thread nD τ).loc main_arg0) : FVec Ideal S256x256x2 .f32) (ix3 n k 0) = ((X n k : ℝ) : EReal))
  (hY : ∀ n k : Fin 256, (m ((c : Thread nD τ).loc main_arg0) : FVec Ideal S256x256x2 .f32) (ix3 n k 1) = ((Y n k : ℝ) : EReal))
include hX hY

set_option maxHeartbeats 1000000 in
/-- The launch's first operand at an entry: the folded image of the two parts. -/
theorem fc_at (g : Fin 544) (j : Fin 272) : (A m c main_v108 : FVec Ideal S544x272 .f32) (ix2 g j) = ((img X Y g j : ℝ) : EReal) := by
  have h2 : ∀ i j : Fin 256, (A m c main_v2 : FVec Ideal S256x256 .f32) (ix2 i j) = ((X j i : ℝ) : EReal) :=
    fun i j => (xr_at m c i j).trans (hX j i)
  have h5 : ∀ i j : Fin 256, (A m c main_v5 : FVec Ideal S256x256 .f32) (ix2 i j) = ((Y j i : ℝ) : EReal) :=
    fun i j => (xi_at m c i j).trans (hY j i)
  have hh : ∀ j : Fin 136, (A m c main_v76 : FVec Ideal S1x136 .f32) (ix2 0 j) = ((hf j : ℝ) : EReal) :=
    fun j => (congrFun (half_eq m c) _).trans (half_at j)
  obtain ⟨c12, c16, c23, c27⟩ := cols_eq m c
  obtain ⟨r34, r38, r45, r49, r56, r60, r67, r71⟩ := rows_eq m c
  rw [fc_eq, r34, r38, r45, r49, r56, r60, r67, r71, c12, c16, c23, c27]
  generalize A m c main_v2 = x at *
  generalize A m c main_v5 = y at *
  generalize A m c main_v76 = h at *
  have eP := fun (z : FVec Ideal S256x256 .f32) Z hz => rP_at (cP z) (fun i j => fold 1 (fun n => Z n i) j) (cP_at z Z hz)
  have eM := fun (z : FVec Ideal S256x256 .f32) Z hz => rP_at (cM z) (fun i j => fold (-1) (fun n => Z n i) j) (cM_at z Z hz)
  have oP := fun (z : FVec Ideal S256x256 .f32) Z hz => rM_at (cP z) (fun i j => fold 1 (fun n => Z n i) j) (cP_at z Z hz)
  have oM := fun (z : FVec Ideal S256x256 .f32) Z hz => rM_at (cM z) (fun i j => fold (-1) (fun n => Z n i) j) (cM_at z Z hz)
  have e := fun z τ σ Z hz => wr_at h hh _ (fun r j => fold2 τ σ Z r j * hf j) (wc_at h hh z (fold2 τ σ Z) hz)
  have o := fun z τ σ Z hz => wc_at h hh z (fold2 τ σ Z) hz
  exact stack_at _ _ _ _
    (fun r j => if j < 136 then fold2 1 1 X r j * hf j * hf r else -(fold2 1 (-1) Y r (j - 136) * hf (j - 136) * hf r))
    (fun r j => if j < 136 then fold2 1 1 Y r j * hf j * hf r else fold2 1 (-1) X r (j - 136) * hf (j - 136) * hf r)
    (fun r j => if j < 136 then fold2 (-1) 1 X r j * hf j else -(fold2 (-1) (-1) Y r (j - 136) * hf (j - 136)))
    (fun r j => if j < 136 then fold2 (-1) 1 Y r j * hf j else fold2 (-1) (-1) X r (j - 136) * hf (j - 136))
    (beside_at _ _ (fun r j => fold2 1 1 X r j * hf j * hf r) (fun r j => -(fold2 1 (-1) Y r j * hf j * hf r))
      (e _ 1 1 X (eP x X h2)) (neg_at _ (fun r j => fold2 1 (-1) Y r j * hf j * hf r) (e _ 1 (-1) Y (eM y Y h5))))
    (beside_at _ _ (fun r j => fold2 1 1 Y r j * hf j * hf r) (fun r j => fold2 1 (-1) X r j * hf j * hf r)
      (e _ 1 1 Y (eP y Y h5)) (e _ 1 (-1) X (eM x X h2)))
    (beside_at _ _ (fun r j => fold2 (-1) 1 X r j * hf j) (fun r j => -(fold2 (-1) (-1) Y r j * hf j))
      (o _ (-1) 1 X (oP x X h2)) (neg_at _ (fun r j => fold2 (-1) (-1) Y r j * hf j) (o _ (-1) (-1) Y (oM y Y h5))))
    (beside_at _ _ (fun r j => fold2 (-1) 1 Y r j * hf j) (fun r j => fold2 (-1) (-1) X r j * hf j)
      (o _ (-1) 1 Y (oP y Y h5)) (o _ (-1) (-1) X (oM x X h2))) g j
end
end Cert.Proof.Image
-- ==== Proof.Launch.lean ====
/- What the launch's two result arrays hold, at every index, as sums of reals. -/
module

public import proofs.«01_k».proof.Proof.Image
public import Idealize.ShloMosaic.Lib.Pipeline.ValueKit

@[expose] public section

set_option maxRecDepth 16384

noncomputable section

namespace Cert.Proof.Launch

open Idealize.ShloMosaic Idealize.ShloMosaic.TcCoe Cert.KernelIdeal Cert.KernelIdeal.Gen Cert.Proof.Fold Cert.Proof.Host
open Cert.Proof.Block Cert.Proof.Table Cert.Proof.Image

/-- Where each window's block lies at a point. -/
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

/-- An index of a block is its lane. -/
theorem row_ix (y : S1x1x4096.Idx) : y = ix3 0 0 (y 2) := by
  funext a
  match a with
  | ⟨0, _⟩ => exact Subsingleton.elim (α := Fin 1) _ _
  | ⟨1, _⟩ => exact Subsingleton.elim (α := Fin 1) _ _
  | ⟨2, _⟩ => rfl

variable (m : (ℓ : Loc nD τ sig) → Buf (Elt Ideal) ℓ) (c : Dev nD) (X Y : ℕ → ℕ → ℝ) (kx ky w : ℕ → ℝ)

/-- The arguments as reals: the image's two parts, the two coordinates, and the root of the weight. -/
structure Reals : Prop where
  re : ∀ n k : Fin 256, (m ((c : Thread nD τ).loc main_arg0) : FVec Ideal S256x256x2 .f32) (ix3 n k 0) = ((X n k : ℝ) : EReal)
  im : ∀ n k : Fin 256, (m ((c : Thread nD τ).loc main_arg0) : FVec Ideal S256x256x2 .f32) (ix3 n k 1) = ((Y n k : ℝ) : EReal)
  kx : ∀ s : Fin 32768, (m ((c : Thread nD τ).loc main_arg1) : FVec Ideal S2x32768 .f32) (ix2 0 s) = ((kx s : ℝ) : EReal)
  ky : ∀ s : Fin 32768, (m ((c : Thread nD τ).loc main_arg1) : FVec Ideal S2x32768 .f32) (ix2 1 s) = ((ky s : ℝ) : EReal)
  w : ∀ s : Fin 32768, Ideal.sqrt ((m ((c : Thread nD τ).loc main_arg2) : FVec Ideal S32768 .f32) (ix1 s)) = ((w s : ℝ) : EReal)

variable {m c X Y kx ky w} (h : Reals m c X Y kx ky w)
include h

/-- The first operand's block, at every point. -/
theorem blk0 (t : Fin cfg0.N) (g : Fin 544) (j : Fin 272) :
    (iblk m c 0 t : FVec Ideal S544x272 .f32) (ix2 g j) = ((img X Y g j : ℝ) : EReal) := by
  refine Eq.trans ?_ (fc_at m c X Y h.re h.im g j)
  blk_ext [iblk, idx t]

/-- The first coordinate's block. -/
theorem blk1 (t : Fin cfg0.N) (s : Fin 4096) :
    (iblk m c 1 t : FVec Ideal S1x1x4096 .f32) (ix3 0 0 s) = ((kx (t * 4096 + s) : ℝ) : EReal) := by
  refine Eq.trans ?_ ((kx_at m c t s).trans (h.kx _))
  blk_ext [iblk, idx t]

/-- The second coordinate's block. -/
theorem blk2 (t : Fin cfg0.N) (s : Fin 4096) :
    (iblk m c 2 t : FVec Ideal S1x1x4096 .f32) (ix3 0 0 s) = ((ky (t * 4096 + s) : ℝ) : EReal) := by
  refine Eq.trans ?_ ((ky_at m c t s).trans (h.ky _))
  blk_ext [iblk, idx t]

/-- The weight's block. -/
theorem blk3 (t : Fin cfg0.N) (s : Fin 4096) :
    (iblk m c 3 t : FVec Ideal S1x1x4096 .f32) (ix3 0 0 s) = ((w (t * 4096 + s) : ℝ) : EReal) := by
  refine Eq.trans ?_ ((w_at m c t s).trans (h.w _))
  blk_ext [iblk, idx t]

/-- What the body leaves in the first output window: the real part at the block's own samples. -/
theorem out_r (t : Fin cfg0.N) (s : Fin 4096) : (outsAt0 m c t).1 (ix3 0 0 s)
    = ((outR (img X Y) (w (t * 4096 + s)) (tw * kx (t * 4096 + s)) (tw * ky (t * 4096 + s)) : ℝ) : EReal) := by
  refine Eq.trans ?_ (lane_r c (ms0_0 t) (hs0_0 t) (ms0_1 t) (hs0_1 t) (ms0_2 t) (hs0_2 t) (ms0_3 t) (hs0_3 t) scM0_0 scM0_1
    scM0_2 (iblk m c 0 t) (iblk m c 1 t) (iblk m c 2 t) (iblk m c 3 t) (blk0 h t) (fun s => blk1 h t s) (fun s => blk2 h t s)
    (fun s => blk3 h t s) s)
  unfold outsAt0 out0_A_4
  dsimp only
  rw [View.read_writes_eq_canon _ _ _ (cover0_A_4 c _ _ _ _ _ _ _ _ _ _ _ _ _ _ _ _ _ _ _ _ _ _ _)]
  unfold kernelRun0_A
  dsimp only
  rw [View.canon_unit_zero (by funext a; fin_cases a <;> rfl)]

/-- What it leaves in the second: the imaginary part. -/
theorem out_i (t : Fin cfg0.N) (s : Fin 4096) : (outsAt0 m c t).2 (ix3 0 0 s)
    = ((outI (img X Y) (w (t * 4096 + s)) (tw * kx (t * 4096 + s)) (tw * ky (t * 4096 + s)) : ℝ) : EReal) := by
  refine Eq.trans ?_ (lane_i c (ms0_0 t) (hs0_0 t) (ms0_1 t) (hs0_1 t) (ms0_2 t) (hs0_2 t) (ms0_3 t) (hs0_3 t) scM0_0 scM0_1
    scM0_2 (iblk m c 0 t) (iblk m c 1 t) (iblk m c 2 t) (iblk m c 3 t) (blk0 h t) (fun s => blk1 h t s) (fun s => blk2 h t s)
    (fun s => blk3 h t s) s)
  unfold outsAt0 out0_A_5
  dsimp only
  rw [View.read_writes_eq_canon _ _ _ (cover0_A_5 c _ _ _ _ _ _ _ _ _ _ _ _ _ _ _ _ _ _ _ _ _ _ _)]
  unfold kernelRun0_A
  dsimp only
  rw [View.canon_unit_zero (by funext a; fin_cases a <;> rfl)]

/-- The first result array: the real part at every sample. -/
theorem arr_r : (dats m 0 c).arrAt 4 cfg0.N = fun i : S8x1x4096.Idx =>
    ((outR (img X Y) (w (i 0 * 4096 + i 2)) (tw * kx (i 0 * 4096 + i 2)) (tw * ky (i 0 * 4096 + i 2)) : ℝ) : EReal) := by
  refine (dats m 0 c).arrAt_eq_of_covers 4 _ (by decide +kernel) fun t _ y => ?_
  obtain ⟨-, -, -, -, i4, -⟩ := idx t
  blk_simp
  rw [after0_4, i4]
  have e := out_r h t (y 2)
  refine (congrArg (outsAt0 m c t).1 (row_ix y)).trans (e.trans ?_)
  simp

/-- The second: the imaginary part. -/
theorem arr_i : (dats m 0 c).arrAt 5 cfg0.N = fun i : S8x1x4096.Idx =>
    ((outI (img X Y) (w (i 0 * 4096 + i 2)) (tw * kx (i 0 * 4096 + i 2)) (tw * ky (i 0 * 4096 + i 2)) : ℝ) : EReal) := by
  refine (dats m 0 c).arrAt_eq_of_covers 5 _ (by decide +kernel) fun t _ y => ?_
  obtain ⟨-, -, -, -, -, i5⟩ := idx t
  blk_simp
  rw [after0_5, i5]
  have e := out_i h t (y 2)
  refine (congrArg (outsAt0 m c t).2 (row_ix y)).trans (e.trans ?_)
  simp

end Cert.Proof.Launch
-- ==== Proof.Tail.lean ====
/- What the kernel returns: the two result arrays' samples, side by side. -/
module

public import proofs.«01_k».proof.Proof.Launch
public import Idealize.ShloMosaic.Lib.StableHlo.ReadAt

@[expose] public section

set_option maxRecDepth 16384

noncomputable section

namespace Cert.Proof.Tail

open Idealize.ShloMosaic Idealize.ShloMosaic.TcCoe Cert.KernelIdeal Cert.KernelIdeal.Gen Cert.Proof.Fold Cert.Proof.Host
open Cert.Proof.Block Cert.Proof.Table Cert.Proof.Image Cert.Proof.Launch

variable {m : (ℓ : Loc nD τ sig) → Buf (Elt Ideal) ℓ} {c : Dev nD} {X Y : ℕ → ℕ → ℝ} {kx ky w : ℕ → ℝ} (h : Reals m c X Y kx ky w)

theorem arrs_inj : Function.Injective (Pipeline.arrRef spec0) := by decide

/-- A sample's number from its block and its lane. -/
theorem sample (s : Fin 32768) : s.val / 4096 * 4096 + s.val % 4096 = s.val := by omega

include h

/-- The first column of the kernel's result. -/
theorem out0 (s : Fin 32768) :
    (Pipeline.afterTail₀ cfgs (dats m) 0 (V0 m) [hostOps1] c main_v122 : FVec Ideal S32768x2 .f32) (ix2 s 0)
      = ((outR (img X Y) (w s) (tw * kx s) (tw * ky s) : ℝ) : EReal) := by
  unfold Pipeline.afterTail₀
  after_reads_at
  refine (congrFun ((Pipeline.withArrays_arr spec0 arrs_inj c (V0 m c) (fun w => (dats m 0 c).arrAt w (cfgs 0).N) 4).trans
    (arr_r h)) _).trans ?_
  show ((outR (img X Y) (w (s / 4096 * 4096 + s % 4096)) (tw * kx (s / 4096 * 4096 + s % 4096))
    (tw * ky (s / 4096 * 4096 + s % 4096)) : ℝ) : EReal) = _
  rw [sample]

/-- The second column. -/
theorem out1 (s : Fin 32768) :
    (Pipeline.afterTail₀ cfgs (dats m) 0 (V0 m) [hostOps1] c main_v122 : FVec Ideal S32768x2 .f32) (ix2 s 1)
      = ((outI (img X Y) (w s) (tw * kx s) (tw * ky s) : ℝ) : EReal) := by
  unfold Pipeline.afterTail₀
  after_reads_at
  refine (congrFun ((Pipeline.withArrays_arr spec0 arrs_inj c (V0 m c) (fun w => (dats m 0 c).arrAt w (cfgs 0).N) 5).trans
    (arr_i h)) _).trans ?_
  show ((outI (img X Y) (w (s / 4096 * 4096 + s % 4096)) (tw * kx (s / 4096 * 4096 + s % 4096))
    (tw * ky (s / 4096 * 4096 + s % 4096)) : ℝ) : EReal) = _
  rw [sample]

end Cert.Proof.Tail
-- ==== Proof.Reference.lean ====
/- The reference's result, at every index, as a sum of reals. -/
module

public import proofs.«01_k».proof.Proof.Fold
public import proofs.«01_k».proof.Proof.Gen.ReferenceIdeal.Read
public import Idealize.ShloMosaic.Lib.Pointwise

@[expose] public section

set_option maxRecDepth 16384

noncomputable section

namespace Cert.Proof.Reference

open Idealize.ShloMosaic Cert.ReferenceIdeal Cert.ReferenceIdeal.Read Cert.Proof.Fold Cert.Proof.Block Cert.Proof.Table

variable {x0 : FVec Ideal S256x256x2 .f32} {x1 : FVec Ideal S2x32768 .f32} {x2 : FVec Ideal S32768 .f32}
variable {X Y : ℕ → ℕ → ℝ} {kx ky w : ℕ → ℝ}

/-- The literal 128. -/
theorem lit128 : (Ideal.ofBits .f32 0x43000000#32 : EReal) = ((128 : ℝ) : EReal) := by
  simp [Ideal.ofBits, Ideal.ieee, -EReal.coe_mul, -EReal.coe_neg]; norm_num

/-- The grid's coordinates. -/
theorem grid (n : Fin 256) : val_main_v7 (F := Ideal) (ix1 n) = (((n : ℝ) - 128 : ℝ) : EReal) := by
  rw [val_main_v7_apply, val_main_v5_apply, val_main_v4_apply, val_main_v6_apply, val_main_cst_apply]
  show (((BitVec.ofNat 32 n.val).toInt : ℝ) : EReal) - Ideal.ofBits .f32 0x43000000#32 = _
  have e : (BitVec.ofNat 32 n.val).toInt = (n.val : ℤ) := by
    rw [BitVec.toInt_eq_toNat_cond, BitVec.toNat_ofNat]; omega
  rw [e, lit128, ← EReal.coe_sub]; simp

/-- The image's real part. -/
theorem re (h : ∀ n k : Fin 256, x0 (ix3 n k 0) = ((X n k : ℝ) : EReal)) (n k : Fin 256) :
    val_main_v1 (F := Ideal) x0 (ix2 n k) = ((X n k : ℝ) : EReal) := by
  rw [val_main_v1_apply, val_main_v0_apply, ← h]
  refine congrArg x0 (funext fun a => Fin.ext ?_)
  match a with
  | ⟨0, _⟩ => show (n.val * 256 + k.val) / 256 = n.val; omega
  | ⟨1, _⟩ => show (n.val * 256 + k.val) / 1 % 256 = k.val; omega
  | ⟨2, _⟩ => rfl

/-- Its imaginary part. -/
theorem im (h : ∀ n k : Fin 256, x0 (ix3 n k 1) = ((Y n k : ℝ) : EReal)) (n k : Fin 256) :
    val_main_v3 (F := Ideal) x0 (ix2 n k) = ((Y n k : ℝ) : EReal) := by
  rw [val_main_v3_apply, val_main_v2_apply, ← h]
  refine congrArg x0 (funext fun a => Fin.ext ?_)
  match a with
  | ⟨0, _⟩ => show (n.val * 256 + k.val) / 256 = n.val; omega
  | ⟨1, _⟩ => show (n.val * 256 + k.val) / 1 % 256 = k.val; omega
  | ⟨2, _⟩ => rfl

/-- The first frequency's angle at a grid point. -/
theorem px (h : ∀ s : Fin 32768, x1 (ix2 0 s) = ((kx s : ℝ) : EReal)) (s : Fin 32768) (n : Fin 256) :
    val_main_v18 (F := Ideal) x1 (ix2 s n) = ((((n : ℝ) - 128) * (tw * kx s) : ℝ) : EReal) := by
  rw [val_main_v18_apply, val_main_v16_apply, val_main_v17_apply, val_main_v15_apply, val_main_v14_apply, val_main_v13_apply,
    val_main_v12_apply, val_main_cst_0_apply, val_main_v9_apply, val_main_v8_apply]
  have e : idx_main_v8 (idx_main_v9 (idx_main_v14 (idx_main_v16 (ix2 s n)))) = ix2 0 s := by
    refine funext fun a => Fin.ext ?_
    match a with
    | ⟨0, _⟩ => rfl
    | ⟨1, _⟩ => show s.val % 32768 = s.val; omega
  have e' : idx_main_v15 (idx_main_v17 (ix2 s n)) = ix1 n := funext fun a => match a with | ⟨0, _⟩ => rfl
  rw [e, e', h, grid]
  show (Ideal.ofBits .f32 0xC0C90FDB#32 : EReal) * _ * _ = _
  rw [tw_eq, ← EReal.coe_mul, ← EReal.coe_mul, mul_comm]

/-- The second frequency's. -/
theorem py (h : ∀ s : Fin 32768, x1 (ix2 1 s) = ((ky s : ℝ) : EReal)) (s : Fin 32768) (n : Fin 256) :
    val_main_v25 (F := Ideal) x1 (ix2 s n) = ((((n : ℝ) - 128) * (tw * ky s) : ℝ) : EReal) := by
  rw [val_main_v25_apply, val_main_v23_apply, val_main_v24_apply, val_main_v22_apply, val_main_v21_apply, val_main_v20_apply,
    val_main_v19_apply, val_main_cst_1_apply, val_main_v11_apply, val_main_v10_apply]
  have e : idx_main_v10 (idx_main_v11 (idx_main_v21 (idx_main_v23 (ix2 s n)))) = ix2 1 s := by
    refine funext fun a => Fin.ext ?_
    match a with
    | ⟨0, _⟩ => rfl
    | ⟨1, _⟩ => show s.val % 32768 = s.val; omega
  have e' : idx_main_v22 (idx_main_v24 (ix2 s n)) = ix1 n := funext fun a => match a with | ⟨0, _⟩ => rfl
  rw [e, e', h, grid]
  show (Ideal.ofBits .f32 0xC0C90FDB#32 : EReal) * _ * _ = _
  rw [tw_eq, ← EReal.coe_mul, ← EReal.coe_mul, mul_comm]

/-- The arguments as reals: the image's two parts, the two coordinates, and the root of the weight. -/
structure Reals (x0 : FVec Ideal S256x256x2 .f32) (x1 : FVec Ideal S2x32768 .f32) (x2 : FVec Ideal S32768 .f32)
    (X Y : ℕ → ℕ → ℝ) (kx ky w : ℕ → ℝ) : Prop where
  re : ∀ n k : Fin 256, x0 (ix3 n k 0) = ((X n k : ℝ) : EReal)
  im : ∀ n k : Fin 256, x0 (ix3 n k 1) = ((Y n k : ℝ) : EReal)
  kx : ∀ s : Fin 32768, x1 (ix2 0 s) = ((kx s : ℝ) : EReal)
  ky : ∀ s : Fin 32768, x1 (ix2 1 s) = ((ky s : ℝ) : EReal)
  w : ∀ s : Fin 32768, Ideal.sqrt (x2 (ix1 s)) = ((w s : ℝ) : EReal)

variable (h : Reals x0 x1 x2 X Y kx ky w) (s : Fin 32768)
include h

theorem cx (n : Fin 256) : val_main_v26 (F := Ideal) x1 (ix2 s n) = ((Real.cos (((n : ℝ) - 128) * (tw * kx s)) : ℝ) : EReal) := by
  rw [val_main_v26_apply, px h.kx]; rfl

theorem sx (n : Fin 256) : val_main_v27 (F := Ideal) x1 (ix2 s n) = ((Real.sin (((n : ℝ) - 128) * (tw * kx s)) : ℝ) : EReal) := by
  rw [val_main_v27_apply, px h.kx]; rfl

theorem cy (n : Fin 256) : val_main_v28 (F := Ideal) x1 (ix2 s n) = ((Real.cos (((n : ℝ) - 128) * (tw * ky s)) : ℝ) : EReal) := by
  rw [val_main_v28_apply, py h.ky]; rfl

theorem sy (n : Fin 256) : val_main_v29 (F := Ideal) x1 (ix2 s n) = ((Real.sin (((n : ℝ) - 128) * (tw * ky s)) : ℝ) : EReal) := by
  rw [val_main_v29_apply, py h.ky]; rfl

/-- The real part of the first transform. -/
theorem tr (k : Fin 256) : val_main_v32 (F := Ideal) x0 x1 (ix2 s k) = ((col (-1) X Y (tw * kx s) k : ℝ) : EReal) := by
  have l1 : ∀ n, lidx_main_v30 (ix2 s k) n = ix2 s n := fun n => funext fun a => match a with | ⟨0, _⟩ => rfl | ⟨1, _⟩ => rfl
  have r1 : ∀ n, ridx_main_v30 (ix2 s k) n = ix2 n k := fun n => funext fun a => match a with | ⟨0, _⟩ => rfl | ⟨1, _⟩ => rfl
  have l2 : ∀ n, lidx_main_v31 (ix2 s k) n = ix2 s n := fun n => funext fun a => match a with | ⟨0, _⟩ => rfl | ⟨1, _⟩ => rfl
  have r2 : ∀ n, ridx_main_v31 (ix2 s k) n = ix2 n k := fun n => funext fun a => match a with | ⟨0, _⟩ => rfl | ⟨1, _⟩ => rfl
  rw [val_main_v32_apply, val_main_v30_apply, val_main_v31_apply]
  simp only [l1, l2, r1, r2, cx h, sx h, Reference.re h.re, Reference.im h.im, ← EReal.coe_mul, ← coe_sum]
  show ((_ : ℝ) : EReal) - ((_ : ℝ) : EReal) = _
  rw [← EReal.coe_sub, col, Finset.sum_range, Finset.sum_range, neg_one_mul, ← sub_eq_add_neg]
  simp only [mul_comm]

/-- Its imaginary part. -/
theorem ti (k : Fin 256) : val_main_v35 (F := Ideal) x0 x1 (ix2 s k) = ((col 1 Y X (tw * kx s) k : ℝ) : EReal) := by
  have l1 : ∀ n, lidx_main_v33 (ix2 s k) n = ix2 s n := fun n => funext fun a => match a with | ⟨0, _⟩ => rfl | ⟨1, _⟩ => rfl
  have r1 : ∀ n, ridx_main_v33 (ix2 s k) n = ix2 n k := fun n => funext fun a => match a with | ⟨0, _⟩ => rfl | ⟨1, _⟩ => rfl
  have l2 : ∀ n, lidx_main_v34 (ix2 s k) n = ix2 s n := fun n => funext fun a => match a with | ⟨0, _⟩ => rfl | ⟨1, _⟩ => rfl
  have r2 : ∀ n, ridx_main_v34 (ix2 s k) n = ix2 n k := fun n => funext fun a => match a with | ⟨0, _⟩ => rfl | ⟨1, _⟩ => rfl
  rw [val_main_v35_apply, val_main_v33_apply, val_main_v34_apply]
  simp only [l1, l2, r1, r2, cx h, sx h, Reference.re h.re, Reference.im h.im, ← EReal.coe_mul, ← coe_sum]
  show ((_ : ℝ) : EReal) + ((_ : ℝ) : EReal) = _
  rw [← EReal.coe_add, col, Finset.sum_range, Finset.sum_range, one_mul]
  simp only [mul_comm]

theorem root : val_main_v44 (F := Ideal) x2 (ix1 s) = ((w s : ℝ) : EReal) := by
  rw [val_main_v44_apply, ← h.w]; rfl

/-- The first column of the reference's result. -/
theorem out0 : val_main_v49 (F := Ideal) x0 x1 x2 (ix2 s 0)
    = ((outR (img X Y) (w s) (tw * kx s) (tw * ky s) : ℝ) : EReal) := by
  have r1 : ∀ k, idx_main_v39 (ix1 s) k = ix2 s k := fun n => funext fun a => match a with | ⟨0, _⟩ => rfl | ⟨1, _⟩ => rfl
  have e : val_main_v49 (F := Ideal) x0 x1 x2 (ix2 s 0) = val_main_v45 (F := Ideal) x0 x1 x2 (ix1 s) := by
    unfold val_main_v49 val_main_v47 val_main_v48
    pointwise
  rw [e, val_main_v45_apply, val_main_v39_apply, val_main_cst_2_apply, root h]
  simp only [r1, val_main_v38_apply, val_main_v36_apply, val_main_v37_apply, tr h, ti h, cy h, sy h, Ideal.mulf_def, Ideal.subf_def,
    ← EReal.coe_mul, ← EReal.coe_sub, ← coe_sum]
  show ((Ideal.ofBits .f32 0x00000000#32 : EReal) + _) * _ = _
  rw [Ideal.ofBits_zero_f32, zero_add, ← EReal.coe_mul, Fold.outR_eq, Finset.sum_range, mul_comm]
  simp only [neg_one_mul, ← sub_eq_add_neg]

/-- The second column. -/
theorem out1 : val_main_v49 (F := Ideal) x0 x1 x2 (ix2 s 1)
    = ((outI (img X Y) (w s) (tw * kx s) (tw * ky s) : ℝ) : EReal) := by
  have r1 : ∀ k, idx_main_v43 (ix1 s) k = ix2 s k := fun n => funext fun a => match a with | ⟨0, _⟩ => rfl | ⟨1, _⟩ => rfl
  have e : val_main_v49 (F := Ideal) x0 x1 x2 (ix2 s 1) = val_main_v46 (F := Ideal) x0 x1 x2 (ix1 s) := by
    unfold val_main_v49 val_main_v47 val_main_v48
    pointwise
  rw [e, val_main_v46_apply, val_main_v43_apply, val_main_cst_3_apply, root h]
  simp only [r1, val_main_v42_apply, val_main_v40_apply, val_main_v41_apply, tr h, ti h, cy h, sy h, Ideal.mulf_def, Ideal.addf_def,
    ← EReal.coe_mul, ← EReal.coe_add, ← coe_sum]
  show ((Ideal.ofBits .f32 0x00000000#32 : EReal) + _) * _ = _
  rw [Ideal.ofBits_zero_f32, zero_add, ← EReal.coe_mul, Fold.outI_eq, Finset.sum_range, mul_comm]
  simp only [one_mul, add_comm]

end Cert.Proof.Reference
-- ==== Proof.Pre.lean ====
/- The precondition: what it gives of the arguments, as reals. -/
module

public import proofs.«01_k».proof.Proof.Reference
public import proofs.«01_k».proof.Proof.Gen.Pre_ordinary

@[expose] public section

noncomputable section

namespace Cert.Proof.Pre

open Idealize.ShloMosaic Cert.ReferenceIdeal Cert.Proof.Reference

/-- The literal infinity. -/
theorem litInf : (Ideal.ofBits .f32 0x7F800000#32 : EReal) = ⊤ := by
  simp [Ideal.ofBits, Ideal.ieee]

/-- A value whose absolute value is below infinity is a real. -/
theorem real_of {a : EReal} (h : Ideal.cmp .olt (max a (-a)) (Ideal.ofBits .f32 0x7F800000#32) = 1#1) : a = ((a.toReal : ℝ) : EReal) := by
  rw [litInf] at h
  have h' : max a (-a) < ⊤ := by
    by_contra hn
    simp [Ideal.cmp, hn] at h
  refine (EReal.coe_toReal ?_ ?_).symm
  · rintro rfl; simp at h'
  · rintro rfl; simp at h'

/-- A weight that is at least zero and below infinity has a real root. -/
theorem root_of {a : EReal} (h : Ideal.cmp .oge a (Ideal.ofBits .f32 0x00000000#32) &&& Ideal.cmp .olt a (Ideal.ofBits .f32 0x7F800000#32) = 1#1) :
    Ideal.sqrt a = ((Real.sqrt a.toReal : ℝ) : EReal) := by
  rw [litInf, Ideal.ofBits_zero_f32] at h
  have h0 : 0 ≤ a := by
    by_contra hn
    simp [Ideal.cmp, hn] at h
  have h1 : a < ⊤ := by
    by_contra hn
    simp [Ideal.cmp, hn] at h
  induction a with
  | bot => simp at h0
  | top => simp at h1
  | coe r =>
    have : ¬ r < 0 := not_lt.2 (EReal.coe_nonneg.1 h0)
    rw [Ideal.sqrt_coe, if_neg this, EReal.toReal_coe]

/-- A number below the bound is its own remainder. -/
theorem back {n : ℕ} [NeZero n] (i : Fin n) : Fin.ofNat n i.val = i := Fin.ext (Nat.mod_eq_of_lt i.isLt)

/-- Under the precondition the arguments are reals. -/
theorem reals (x0 : FVec Ideal S256x256x2 .f32) (x1 : FVec Ideal S2x32768 .f32) (x2 : FVec Ideal S32768 .f32)
    (h : (Cert.Pre_ordinary.fn (F := Ideal) x0 x1 x2).1 = (fun _ => 1#1) ∧ (Cert.Pre_ordinary.fn (F := Ideal) x0 x1 x2).2.1 = (fun _ => 1#1)
      ∧ (Cert.Pre_ordinary.fn (F := Ideal) x0 x1 x2).2.2 = (fun _ => 1#1)) :
    ∃ X Y kx ky w, Reals x0 x1 x2 X Y kx ky w := by
  obtain ⟨h0, h1, h2⟩ := h
  refine ⟨fun n k => (x0 (ix3 (Fin.ofNat 256 n) (Fin.ofNat 256 k) 0)).toReal,
      fun n k => (x0 (ix3 (Fin.ofNat 256 n) (Fin.ofNat 256 k) 1)).toReal,
      fun s => (x1 (ix2 0 (Fin.ofNat 32768 s))).toReal, fun s => (x1 (ix2 1 (Fin.ofNat 32768 s))).toReal,
      fun s => Real.sqrt (x2 (ix1 (Fin.ofNat 32768 s))).toReal, fun n k => ?_, fun n k => ?_, fun s => ?_, fun s => ?_, fun s => ?_⟩
  · rw [back, back]; exact real_of (congrFun h0 (ix3 n k 0))
  · rw [back, back]; exact real_of (congrFun h0 (ix3 n k 1))
  · rw [back]; exact real_of (congrFun h1 (ix2 0 s))
  · rw [back]; exact real_of (congrFun h1 (ix2 1 s))
  · rw [back]; exact root_of (congrFun h2 (ix1 s))

end Cert.Proof.Pre
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ordinary
public import proofs.«01_k».proof.Proof.Tail
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The reference runs, its arguments end unchanged, and every semaphore ends at zero (it has none). -/
theorem reference_frame : Cert.quiescent_ReferenceIdeal (hReferenceIdeal := Cert.ReferenceIdeal.Gen.facts) :=
  fun m ρ _ => (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Under the precondition, and from the same arguments, the reference's result is the kernel's, element by element:
    each is the root of the weight times the same double sum. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_ordinary (hPre_ordinary := Cert.Pre_ordinary.Gen.facts) m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_main_v49 m' c
      = (Pipeline.afterTail₀ Cert.KernelIdeal.cfgs (Cert.KernelIdeal.Gen.dats m) 0 (Cert.KernelIdeal.Gen.V0 m) [Cert.KernelIdeal.Gen.hostOps1] c
          Cert.KernelIdeal.main_v122 : FVec Ideal Cert.KernelIdeal.S32768x2 .f32) := by
  obtain ⟨X, Y, kx, ky, w, r⟩ := Pre.reals _ _ _ (hpre c)
  have r' : Launch.Reals m c X Y kx ky w := ⟨r.re, r.im, r.kx, r.ky, r.w⟩
  rw [Cert.ReferenceIdeal.Read.val_main_v49_eq, h0, h1, h2]
  funext i
  obtain ⟨s, j, rfl⟩ : ∃ (s : Fin 32768) (j : Fin 2), i = ix2 s j := ⟨i 0, i 1, eq_ix2 i⟩
  match j with
  | 0 => exact (Reference.out0 r s).trans (Tail.out0 r' s).symm
  | 1 => exact (Reference.out1 r s).trans (Tail.out1 r' s).symm

/-- The ideal kernel and the ideal reference return the same array. -/
theorem algebraic : Cert.algebraic_KernelIdeal_ReferenceIdeal_pre_ordinary (hKernelIdeal := Cert.KernelIdeal.Gen.facts)
    (hReferenceIdeal := Cert.ReferenceIdeal.Gen.facts) (hPre_ordinary := Cert.Pre_ordinary.Gen.facts) := by
  intro m g m' g' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v122, ?_, ?_⟩
  · refine (θ_run Cert.KernelIdeal.defs _ _).mono (fun r h c => ⟨(h.1 c).2 Cert.KernelIdeal.main_v122 (by decide +kernel), h.2 c⟩)
      (θ_run_and (Cert.KernelIdeal.Gen.run_main m g) (Cert.KernelIdeal.Gen.unchanged m g))
  · exact (θ_run Cert.ReferenceIdeal.defs _ _).mono
      (fun r h c => ⟨(h c).1.trans (results_agree m m' hpre c (hagree c).1 (hagree c).2.1 (hagree c).2.2), (h c).2⟩)
      (Cert.ReferenceIdeal.Value.run (F := Ideal) m' g')

theorem claim : Cert.Claim := ⟨Cert.Kernel.Gen.facts, Cert.KernelIdeal.Gen.facts, Cert.ReferenceIdeal.Gen.facts,
  Cert.Pre_ordinary.Gen.facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial, algebraic⟩

end Cert.Proof

end
